-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_labels_in_range_KernelIdeal [hPre_finite_labels_in_range_KernelIdeal : Cert.Pre_finite_labels_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_labels_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_labels_in_range_ReferenceIdeal [hPre_finite_labels_in_range_ReferenceIdeal : Cert.Pre_finite_labels_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_labels_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_labels_in_range_KernelIdeal [hKernelIdeal : Cert.KernelIdeal.Facts] [hPre_finite_labels_in_range_KernelIdeal : Cert.Pre_finite_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_labels_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_labels_in_range_ReferenceIdeal [hReferenceIdeal : Cert.ReferenceIdeal.Facts] [hPre_finite_labels_in_range_ReferenceIdeal : Cert.Pre_finite_labels_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_labels_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_labels_in_range_KernelIdeal [hKernelIdeal : Cert.KernelIdeal.Facts] [hReferenceIdeal : Cert.ReferenceIdeal.Facts] [hPre_finite_labels_in_range_KernelIdeal : Cert.Pre_finite_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_labels_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_labels_in_range_KernelIdeal : Cert.Pre_finite_labels_in_range_KernelIdeal.Facts) (hPre_finite_labels_in_range_ReferenceIdeal : Cert.Pre_finite_labels_in_range_ReferenceIdeal.Facts),
    quiescent_Kernel (hKernel := hKernel)
    ∧ quiescent_KernelIdeal (hKernelIdeal := hKernelIdeal)
    ∧ quiescent_KernelIdeal_pre_finite_labels_in_range_KernelIdeal (hKernelIdeal := hKernelIdeal) (hPre_finite_labels_in_range_KernelIdeal := hPre_finite_labels_in_range_KernelIdeal)
    ∧ quiescent_ReferenceIdeal (hReferenceIdeal := hReferenceIdeal)
    ∧ quiescent_ReferenceIdeal_pre_finite_labels_in_range_ReferenceIdeal (hReferenceIdeal := hReferenceIdeal) (hPre_finite_labels_in_range_ReferenceIdeal := hPre_finite_labels_in_range_ReferenceIdeal)
    ∧ preserves_Kernel_KernelIdeal
    ∧ algebraic_KernelIdeal_ReferenceIdeal_pre_finite_labels_in_range_KernelIdeal (hKernelIdeal := hKernelIdeal) (hReferenceIdeal := hReferenceIdeal) (hPre_finite_labels_in_range_KernelIdeal := hPre_finite_labels_in_range_KernelIdeal)
-- ==== Pre_finite_labels_in_range_KernelIdeal.lean ====
abbrev S512x1024 : Shape := ⟨2, ![512, 1024]⟩
abbrev S1024x8192 : Shape := ⟨2, ![1024, 8192]⟩
abbrev S512x1 : Shape := ⟨2, ![512, 1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_arg2 : IVec S512x1 32) (main_v12 : IVec S_ 1) (main_v14 : IVec S512x1 1) (main_v15 : IVec S512x1 32) : IVec S_ 1 :=
  let main_v16 : IVec S512x1 1 := cmpi .slt main_arg2 main_v15
  let main_v17 : IVec S512x1 1 := andi main_v14 main_v16
  let main_c_6 : IVec S_ 1 := constantI S_ 1 1#1
  let main_v18 : IVec S_ 1 := (fun x v => Host.reduce IntOp.andi x v reducesTo_S512x1_S_d0_1 h_S_) main_v17 main_c_6
  let main_v19 : IVec S_ 1 := andi main_v12 main_v18
  main_v19

def fn {F : FTy → Type} [FloatOps F] (main_arg0 : FVec F S512x1024 .f32) (main_arg1 : FVec F S1024x8192 .f32) (main_arg2 : IVec S512x1 32) : IVec S_ 1 :=
  let main_cst : FVec F S_ .f32 := constant S_ .f32 0x7F800000#32
  let main_v0 : FVec F S512x1024 .f32 := broadcastInDim S512x1024 ![] bcast_S_S512x1024 main_cst
  let main_v1 : IVec S512x1024 1 := cmpf .olt main_arg0 main_v0
  let main_cst_0 : FVec F S_ .f32 := constant S_ .f32 0xFF800000#32
  let main_v2 : FVec F S512x1024 .f32 := broadcastInDim S512x1024 ![] bcast_S_S512x1024 main_cst_0
  let main_v3 : IVec S512x1024 1 := cmpf .ogt main_arg0 main_v2
  let main_v4 : IVec S512x1024 1 := andi main_v1 main_v3
  let main_c : IVec S_ 1 := constantI S_ 1 1#1
  let main_v5 : IVec S_ 1 := (fun x v => Host.reduce IntOp.andi x v reducesTo_S512x1024_S_d0_1 h_S_) main_v4 main_c
  let main_cst_1 : FVec F S_ .f32 := constant S_ .f32 0x7F800000#32
  let main_v6 : FVec F S1024x8192 .f32 := broadcastInDim S1024x8192 ![] bcast_S_S1024x8192 main_cst_1
  let main_v7 : IVec S1024x8192 1 := cmpf .olt main_arg1 main_v6
  let main_cst_2 : FVec F S_ .f32 := constant S_ .f32 0xFF800000#32
  let main_v8 : FVec F S1024x8192 .f32 := broadcastInDim S1024x8192 ![] bcast_S_S1024x8192 main_cst_2
  let main_v9 : IVec S1024x8192 1 := cmpf .ogt main_arg1 main_v8
  let main_v10 : IVec S1024x8192 1 := andi main_v7 main_v9
  let main_c_3 : IVec S_ 1 := constantI S_ 1 1#1
  let main_v11 : IVec S_ 1 := (fun x v => Host.reduce IntOp.andi x v reducesTo_S1024x8192_S_d0_1 h_S_) main_v10 main_c_3
  let main_v12 : IVec S_ 1 := andi main_v5 main_v11
  let main_c_4 : IVec S_ 32 := constantI S_ 32 0#32
  let main_v13 : IVec S512x1 32 := broadcastInDim S512x1 ![] bcast_S_S512x1 main_c_4
  let main_v14 : IVec S512x1 1 := cmpi .sge main_arg2 main_v13
  let main_c_5 : IVec S_ 32 := constantI S_ 32 16384#32
  let main_v15 : IVec S512x1 32 := broadcastInDim S512x1 ![] bcast_S_S512x1 main_c_5
  fn_part1 (F := F) main_arg2 main_v12 main_v14 main_v15
-- ==== Pre_finite_labels_in_range_ReferenceIdeal.lean ====
abbrev S512x1024 : Shape := ⟨2, ![512, 1024]⟩
abbrev S1024x16384 : Shape := ⟨2, ![1024, 16384]⟩
abbrev S512x1 : Shape := ⟨2, ![512, 1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_arg2 : IVec S512x1 32) (main_v12 : IVec S_ 1) (main_v14 : IVec S512x1 1) (main_v15 : IVec S512x1 32) : IVec S_ 1 :=
  let main_v16 : IVec S512x1 1 := cmpi .slt main_arg2 main_v15
  let main_v17 : IVec S512x1 1 := andi main_v14 main_v16
  let main_c_6 : IVec S_ 1 := constantI S_ 1 1#1
  let main_v18 : IVec S_ 1 := (fun x v => Host.reduce IntOp.andi x v reducesTo_S512x1_S_d0_1 h_S_) main_v17 main_c_6
  let main_v19 : IVec S_ 1 := andi main_v12 main_v18
  main_v19

def fn {F : FTy → Type} [FloatOps F] (main_arg0 : FVec F S512x1024 .f32) (main_arg1 : FVec F S1024x16384 .f32) (main_arg2 : IVec S512x1 32) : IVec S_ 1 :=
  let main_cst : FVec F S_ .f32 := constant S_ .f32 0x7F800000#32
  let main_v0 : FVec F S512x1024 .f32 := broadcastInDim S512x1024 ![] bcast_S_S512x1024 main_cst
  let main_v1 : IVec S512x1024 1 := cmpf .olt main_arg0 main_v0
  let main_cst_0 : FVec F S_ .f32 := constant S_ .f32 0xFF800000#32
  let main_v2 : FVec F S512x1024 .f32 := broadcastInDim S512x1024 ![] bcast_S_S512x1024 main_cst_0
  let main_v3 : IVec S512x1024 1 := cmpf .ogt main_arg0 main_v2
  let main_v4 : IVec S512x1024 1 := andi main_v1 main_v3
  let main_c : IVec S_ 1 := constantI S_ 1 1#1
  let main_v5 : IVec S_ 1 := (fun x v => Host.reduce IntOp.andi x v reducesTo_S512x1024_S_d0_1 h_S_) main_v4 main_c
  let main_cst_1 : FVec F S_ .f32 := constant S_ .f32 0x7F800000#32
  let main_v6 : FVec F S1024x16384 .f32 := broadcastInDim S1024x16384 ![] bcast_S_S1024x16384 main_cst_1
  let main_v7 : IVec S1024x16384 1 := cmpf .olt main_arg1 main_v6
  let main_cst_2 : FVec F S_ .f32 := constant S_ .f32 0xFF800000#32
  let main_v8 : FVec F S1024x16384 .f32 := broadcastInDim S1024x16384 ![] bcast_S_S1024x16384 main_cst_2
  let main_v9 : IVec S1024x16384 1 := cmpf .ogt main_arg1 main_v8
  let main_v10 : IVec S1024x16384 1 := andi main_v7 main_v9
  let main_c_3 : IVec S_ 1 := constantI S_ 1 1#1
  let main_v11 : IVec S_ 1 := (fun x v => Host.reduce IntOp.andi x v reducesTo_S1024x16384_S_d0_1 h_S_) main_v10 main_c_3
  let main_v12 : IVec S_ 1 := andi main_v5 main_v11
  let main_c_4 : IVec S_ 32 := constantI S_ 32 0#32
  let main_v13 : IVec S512x1 32 := broadcastInDim S512x1 ![] bcast_S_S512x1 main_c_4
  let main_v14 : IVec S512x1 1 := cmpi .sge main_arg2 main_v13
  let main_c_5 : IVec S_ 32 := constantI S_ 32 16384#32
  let main_v15 : IVec S512x1 32 := broadcastInDim S512x1 ![] bcast_S_S512x1 main_c_5
  fn_part1 (F := F) main_arg2 main_v12 main_v14 main_v15
-- ==== Kernel.lean ====
abbrev S512x1024 : Shape := ⟨2, ![512, 1024]⟩
abbrev S1024x8192 : Shape := ⟨2, ![1024, 8192]⟩
abbrev S512x1 : Shape := ⟨2, ![512, 1]⟩
abbrev S4x1024x1024 : Shape := ⟨3, ![4, 1024, 1024]⟩
abbrev S4x512x8 : Shape := ⟨3, ![4, 512, 8]⟩
abbrev S4 : Shape := ⟨1, ![4]⟩
abbrev S3 : Shape := ⟨1, ![3]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S512 : Shape := ⟨1, ![512]⟩
abbrev S1x512x1 : Shape := ⟨3, ![1, 512, 1]⟩
abbrev S1x512x8 : Shape := ⟨3, ![1, 512, 8]⟩
abbrev S512x8 : Shape := ⟨2, ![512, 8]⟩

abbrev nBuf : Space → Nat
  | .hbm => 4
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x1, .i32⟩
  | .hbm, ⟨3, _⟩ => ⟨S512x1, .f32⟩
  | .local _ .vmem, ⟨0, _⟩ => ⟨S512x1024, .f32⟩
  | .local _ .vmem, ⟨1, _⟩ => ⟨S512x1, .i32⟩
  | .local _ .vmem, ⟨2, _⟩ => ⟨S512x1, .f32⟩
  | .local _ .vmem, ⟨3, _⟩ => ⟨S4x1024x1024, .f32⟩
  | .local _ .vmem, ⟨4, _⟩ => ⟨S4x512x8, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v11 : BitVec 32 := Scalar.muli v2 c2_i32_7
  let v12 : BitVec 32 := Scalar.addi c0_i32 v11
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v13 : BitVec 32 := Scalar.muli v6 c1_i32_8
  let v14 : BitVec 32 := Scalar.addi v12 v13
  v14.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v15 : BitVec 32 := Scalar.muli v7 c2_i32_10
  let v16 : BitVec 32 := Scalar.addi c0_i32_11 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v17 : BitVec 32 := Scalar.muli v5 c1_i32_12
  let v18 : BitVec 32 := Scalar.addi v16 v17
  v18.toNat
def k0_dev3 (d0 : Dev nD) : Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_14 : BitVec 32 := 2#32
  let v19 : BitVec 32 := Scalar.muli v8 c2_i32_14
  let v20 : BitVec 32 := Scalar.addi c0_i32_15 v19
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_16 : BitVec 32 := 1#32
  let v21 : BitVec 32 := Scalar.muli v9 c1_i32_16
  let v22 : BitVec 32 := Scalar.addi v20 v21
  v22.toNat
def k0_off1 (d0 : Dev nD) (c0_i32_17 : BitVec 32) : Fin 2 → Nat :=
  let c0_i32_22 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v23 : BitVec 32 := Scalar.muli v5 c4096_i32
  let v24 : BitVec 32 := Scalar.addi v23 c0_i32_17
  ![0, v24.toNat]
def k0_dev4 (d0 : Dev nD) : Nat :=
  let c0_i32_121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_120 : BitVec 32 := 2#32
  let v181 : BitVec 32 := Scalar.muli v2 c2_i32_120
  let v182 : BitVec 32 := Scalar.addi c0_i32_121 v181
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_122 : BitVec 32 := 1#32
  let v183 : BitVec 32 := Scalar.muli v6 c1_i32_122
  let v184 : BitVec 32 := Scalar.addi v182 v183
  v184.toNat
def k0_dev5 (d0 : Dev nD) : Nat :=
  let c0_i32_132 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_131 : BitVec 32 := 2#32
  let v193 : BitVec 32 := Scalar.muli v7 c2_i32_131
  let v194 : BitVec 32 := Scalar.addi c0_i32_132 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v195 : BitVec 32 := Scalar.muli v5 c1_i32_133
  let v196 : BitVec 32 := Scalar.addi v194 v195
  v196.toNat
def k0_dev6 (d0 : Dev nD) : Nat :=
  let c0_i32_143 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_142 : BitVec 32 := 2#32
  let v205 : BitVec 32 := Scalar.muli v8 c2_i32_142
  let v206 : BitVec 32 := Scalar.addi c0_i32_143 v205
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_144 : BitVec 32 := 1#32
  let v207 : BitVec 32 := Scalar.muli v9 c1_i32_144
  let v208 : BitVec 32 := Scalar.addi v206 v207
  v208.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x1 : Shape := ⟨2, ![512, 1]⟩
abbrev S512x16384 : Shape := ⟨2, ![512, 16384]⟩
abbrev S_ : Shape := ⟨0, ![]⟩
abbrev S512 : Shape := ⟨1, ![512]⟩
abbrev S512x2 : Shape := ⟨2, ![512, 2]⟩

abbrev nBuf : Space → Nat
  | .hbm => 38
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x1, .i32⟩
  | .hbm, ⟨3, _⟩ => ⟨S512x16384, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x16384, .f32⟩
  | .hbm, ⟨8, _⟩ => ⟨S512x16384, .f32⟩
  | .hbm, ⟨9, _⟩ => ⟨S512x16384, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S512x1, .i32⟩
  | .hbm, ⟨34, _⟩ => ⟨S512x2, .i32⟩
  | .hbm, ⟨35, _⟩ => ⟨S512, .f32⟩
  | .hbm, ⟨36, _⟩ => ⟨S512, .f32⟩
  | .hbm, ⟨37, _⟩ => ⟨S512x1, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Common.lean ====
/-
# `Common`: the peers, the cells and the schedule of the vocabulary-sharded loss

Four devices on a two by two mesh. Device `c` has three peers: `c` with the bit of `y` flipped, the bit of `x` flipped,
or both — the involutions `peer 0`, `peer 1`, `peer 2`. Each device tells its three peers on the runtime's barrier
semaphore that it has entered the kernel, waits for three units on its own, copies its half of its block of `W` in four
pieces into four slots (one piece ahead of the arithmetic), writes its two partial sums into row 0 of a small buffer,
and copies that row into row `p + 1` of peer `p`'s buffer.

The protocol, under the rounds library, has duties `Fin 3`. A barrier cell has three duties of one unit: duty `p` is
paid by peer `p`, and hands over that peer's landing row `p + 1`. A send cell has one duty: the share of row 0 the copy
reads. A receive cell has one duty: the landing row, whose first two columns are the sender's two sums.
The four local copies complete on cells of their own and go by the library's exclusive counters.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Ring
public import Idealize.ShloMosaic.Lib.ReshapeSlab
public import Idealize.ShloMosaic.Lib.Tactic

@[expose] public section

noncomputable section

namespace Cert.Loss

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the protocol's, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters the local copies' flights are kept under. -/
abbrev EC : UEmb Counters (MT nD τ sig Unit (Elt F) ℕ UU ℕ) := countersEmb (U := UU)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

set_option backward.proofsInPublic true in
/-- Peer `p` of device `c = 2x + y`: `y` flipped, `x` flipped, both flipped. -/
def peer (p : Fin 3) (c : Dev nD) : Dev nD := ⟨(c.val ^^^ (p.val + 1)) % 4, Nat.mod_lt _ (by decide)⟩

theorem peer_peer (p : Fin 3) (c : Dev nD) : peer p (peer p c) = c := by revert p c; decide

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 0 c := Fin.ext ((k0_dev4_eq c).trans (by revert c; decide))
theorem dev5_eq (c : Dev nD) : (⟨k0_dev5 c, k0_dev5_lt c⟩ : Dev nD) = peer 1 c := Fin.ext ((k0_dev5_eq c).trans (by revert c; decide))
theorem dev6_eq (c : Dev nD) : (⟨k0_dev6 c, k0_dev6_lt c⟩ : Dev nD) = peer 2 c := Fin.ext ((k0_dev6_eq c).trans (by revert c; decide))

/-- Peer `p` as a permutation of the devices. -/
def flip (p : Fin 3) : Dev nD ≃ Dev nD := ⟨peer p, peer p, peer_peer p, peer_peer p⟩

/-! ## The buffers, the slices the copies move, the cells -/

abbrev xM : Memref sig .tc .vmem S512x1024 .f32 := Memref.whole cc0_stg0_0
abbrev lM : Memref sig .tc .vmem S512x1 .i32 := Memref.whole cc0_stg1_0
abbrev oM : Memref sig .tc .vmem S512x1 .f32 := Memref.whole cc0_stg2_0
abbrev wM : Memref sig .tc .hbm S1024x8192 .f32 := Memref.whole main_arg1
abbrev bM : Memref sig .tc .vmem S4x1024x1024 .f32 := Memref.whole cc0_scratch0
abbrev cM : Memref sig .tc .vmem S4x512x8 .f32 := Memref.whole cc0_scratch1

theorem slot_inb (k : Fin 4) : ∀ a, (![k.val, 0, 0] : Fin 3 → Nat) a + S1x1024x1024.size a ≤ S4x1024x1024.size a := by revert k; decide
theorem row_inb (p : Fin 4) : ∀ a, (![p.val, 0, 0] : Fin 3 → Nat) a + S1x512x8.size a ≤ S4x512x8.size a := by revert p; decide
theorem col_inb (p : Fin 4) (j : Fin 2) : ∀ a, (![p.val, 0, j.val] : Fin 3 → Nat) a + S1x512x1.size a ≤ S4x512x8.size a := by revert p j; decide
theorem s3_inb (p : Fin 3) : ∀ a, (![p.val] : Fin 1 → Nat) a + S1.size a ≤ S3.size a := by revert p; decide
theorem s4_inb (k : Fin 4) : ∀ a, (![k.val] : Fin 1 → Nat) a + S1.size a ≤ S4.size a := by revert k; decide

/-- Slot `k` of the four slots, row `p` of the four rows, column `j` of row `p`. -/
abbrev slotR (k : Fin 4) : Rect S4x1024x1024 := Rect.unit (s := S4x1024x1024) ![k.val, 0, 0] S1x1024x1024.size (slot_inb k)
abbrev rowR (p : Fin 4) : Rect S4x512x8 := Rect.unit (s := S4x512x8) ![p.val, 0, 0] S1x512x8.size (row_inb p)
abbrev colR (p : Fin 4) (j : Fin 2) : Rect S4x512x8 := Rect.unit (s := S4x512x8) ![p.val, 0, j.val] S1x512x1.size (col_inb p j)
abbrev slotM (k : Fin 4) : Memref sig .tc .vmem S1024x1024 .f32 := (bM.slice (slotR k) (fun _ => rfl)).squeeze S1024x1024 squeezes_S1x1024x1024_S1024x1024
abbrev rowM (p : Fin 4) : Memref sig .tc .vmem S512x8 .f32 := (cM.slice (rowR p) (fun _ => rfl)).squeeze S512x8 squeezes_S1x512x8_S512x8
/-- Piece `k` of device `c`'s half of its block of `W`. -/
abbrev pieceM (c : Dev nD) (k : Fin 4) : Memref sig .tc .hbm S1024x1024 .f32 :=
  wM.slice (Rect.unit (s := S1024x8192) (k0_off1 c (BitVec.ofNat 32 (1024 * k.val))) S1024x1024.size (k0_off1_inb c k)) (fun _ => rfl)

abbrev copyS (k : Fin 4) : DmaSem sig := ((cc0_scratch2.slice (Rect.unit (s := S4) ![k.val] S1.size (s4_inb k))).squeeze S_ squeezes_S1_S_).sem
abbrev sendS (p : Fin 3) : DmaSem sig := ((cc0_scratch3.slice (Rect.unit (s := S3) ![p.val] S1.size (s3_inb p))).squeeze S_ squeezes_S1_S_).sem
abbrev recvS (p : Fin 3) : DmaSem sig := ((cc0_scratch4.slice (Rect.unit (s := S3) ![p.val] S1.size (s3_inb p))).squeeze S_ squeezes_S1_S_).sem
abbrev barS : Sem sig := (SemArray.scalar (sig.barrier 0 rfl) : Sems sig S_).sem

/-- Which of the protocol's cells: the barrier's, peer `p`'s send (`false`) or receive (`true`). -/
abbrev CK : Type := Option (Bool × Fin 3)
abbrev csem : CK → SemLoc sig
  | none => .reg barS
  | some (false, p) => .dma (sendS p)
  | some (true, p) => .dma (recvS p)
abbrev kcell (ck : Dev nD × CK) : GSem nD τ sig := ((ck.1 : Thread nD τ), csem ck.2)
abbrev barCell (c : Dev nD) : GSem nD τ sig := kcell (c, none)
abbrev sendCell (c : Dev nD) (p : Fin 3) : GSem nD τ sig := kcell (c, some (false, p))
abbrev recvCell (c : Dev nD) (p : Fin 3) : GSem nD τ sig := kcell (c, some (true, p))
abbrev copyCell (c : Dev nD) (k : Fin 4) : GSem nD τ sig := ((c : Thread nD τ), .dma (copyS k))

theorem csem_inj : ∀ k k' : CK, csem k = csem k' → k = k' := by decide
theorem copy_ne_csem : ∀ (k : Fin 4) (k' : CK), (SemLoc.dma (copyS k) : SemLoc sig) ≠ csem k' := by decide

/-- All the cells' kinds, in one list. -/
abbrev ckList : List CK :=
  [none, some (false, 0), some (false, 1), some (false, 2), some (true, 0), some (true, 1), some (true, 2)]
/-- The kind of a semaphore, if it is one of the protocol's. -/
def kind (s : SemLoc sig) : Option CK := ckList.find? (fun k => decide (csem k = s))
theorem kind_csem : ∀ k : CK, kind (csem k) = some k := by decide

omit [FloatOps F] in
theorem bigSep_CK (Φ : CK → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL ckList (by decide) (by decide) Φ

/-- The credit of one row. -/
abbrev N : ℕ := (rowM 0).view.dmaCredit
theorem N_row (p : Fin 4) : (rowM p).view.dmaCredit = N := rfl
theorem N_pos : 0 < N := View.dmaCredit_pos _ (by decide)
/-- The credit of one piece. -/
abbrev NW : ℕ := (slotM 0).view.dmaCredit
theorem NW_slot (k : Fin 4) : (slotM k).view.dmaCredit = NW := rfl
theorem NW_pos : 0 < NW := View.dmaCredit_pos _ (by decide)

/-! ## The values -/

/-- Device `c`'s staged `x` and labels. -/
def xv (c : Dev nD) : Vec F S512x1024 .f32 := (win0_0.blk (0 : Fin 1)).view.read (Elt F) ((s₀ m ρ).mem ((c : Thread nD τ).loc main_arg0))
def lv' (c : Dev nD) : Vec F S512x1 .i32 := (win0_1.blk (0 : Fin 1)).view.read (Elt F) ((s₀ m ρ).mem ((c : Thread nD τ).loc main_arg2))
/-- Piece `k` of device `c`'s half of its block of `W`, as the slot's loads read it. -/
def wv (c : Dev nD) (k : Fin 4) : Vec F S1x1024x1024 .f32 :=
  shapeCast S1x1024x1024 ((pieceM c k).view.read (Elt F) ((s₀ m ρ).mem ((c : Thread nD τ).loc main_arg1))) (by decide)

/-- The mesh coordinates and the half's offset, as the kernel's words. -/
abbrev xw (c : Dev nD) : BitVec 32 := Scalar.remsi (Scalar.divsi (Dev.word c) 2#32) 2#32
abbrev yw (c : Dev nD) : BitVec 32 := Scalar.remsi (Scalar.divsi (Dev.word c) 1#32) 2#32
abbrev bw (c : Dev nD) : BitVec 32 := Scalar.muli (yw c) 4096#32
abbrev colv : IVec S512x1024 32 := iota .tc S512x1024 32 [1] iota_S512x1024_d1_w32

/-- The running sums of exponentials: after one piece, two, three, four. -/
abbrev sv1 (c : Dev nD) : FVec F S512x1 .f32 := k0_pay4 (xv m ρ c) (wv m ρ c 0)
abbrev sv2 (c : Dev nD) : FVec F S512x1 .f32 := k0_pay8 (sv1 m ρ c) (xv m ρ c) (wv m ρ c 1)
abbrev sv3 (c : Dev nD) : FVec F S512x1 .f32 := k0_pay12 (sv2 m ρ c) (xv m ρ c) (wv m ρ c 2)
def sv (c : Dev nD) : FVec F S512x1 .f32 := k0_pay15 (sv3 m ρ c) (xv m ρ c) (wv m ρ c 3)
/-- The running sums of the labels' logits: after one piece, two, three, four. -/
abbrev gv1 (c : Dev nD) : FVec F S512x1 .f32 :=
  k0_pay6 (bw c) k0_pay2 colv (k0_pay3 (xv m ρ c) (wv m ρ c 0)) (k0_pay5 (F := F) (xw c) (lv' m ρ c))
abbrev gv2 (c : Dev nD) : FVec F S512x1 .f32 :=
  k0_pay10 (xw c) (bw c) colv (gv1 m ρ c) (k0_pay7 (xv m ρ c) (wv m ρ c 1)) (k0_pay9 (F := F) (lv' m ρ c))
abbrev gv3 (c : Dev nD) : FVec F S512x1 .f32 :=
  k0_pay13 (xw c) (bw c) colv (gv2 m ρ c) (k0_pay11 (xv m ρ c) (wv m ρ c 2)) (lv' m ρ c)
def gv (c : Dev nD) : FVec F S512x1 .f32 :=
  k0_pay18 colv (gv3 m ρ c) (k0_pay14 (xv m ρ c) (wv m ρ c 3)) (k0_pay16 (F := F) (xw c) (lv' m ρ c)) (k0_pay17 (bw c))
/-- A column as a load of a row's column reads it. -/
abbrev colOf (v : FVec F S512x1 .f32) : FVec F S1x512x1 .f32 := k0_pay19 v
/-- The result of device `c`: its own sums and its three peers'. -/
def outv (c : Dev nD) : FVec F S512x1 .f32 :=
  k0_pay1 (k0_pay21 (sv m ρ c) (colOf (sv m ρ (peer 0 c))) (colOf (sv m ρ (peer 1 c))))
    (k0_pay22 (gv m ρ c) (colOf (gv m ρ (peer 0 c))) (colOf (gv m ρ (peer 1 c))))
    (colOf (sv m ρ (peer 2 c))) (colOf (gv m ρ (peer 2 c)))

/-- Row `p` of the small buffer holds the sums `s` and `g` in its first two columns. -/
def RowIs (p : Fin 4) (f : Buf (Elt F) (cM.view.loc ((0 : Dev nD) : Thread nD τ))) (s g : FVec F S512x1 .f32) : Prop :=
  cM.view.readAt (Elt F) (colR p 0).toLoadRect f = colOf s ∧ cM.view.readAt (Elt F) (colR p 1).toLoadRect f = colOf g

end Cert.Loss
-- ==== Proof.Schedule.lean ====
/-
# `Schedule`: what each cell's duties are worth and hand over; what a core owes and may wait for
-/
module

public import proofs.«01_k».proof.Proof.Common

@[expose] public section

noncomputable section

namespace Cert.Loss

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS

variable {F : FTy → Type} [FloatOps F]

local notation "𝕄" => MT nD τ sig Unit (Elt F) ℕ UU ℕ

variable (m : (ℓ : Loc nD τ sig) → Buf (Elt F) ℓ) (ρ : Dev nD → PrngReg)

/-! ## The rows -/

/-- Row `p` of device `c`'s small buffer, at a share. -/
abbrev rowPts (c : Dev nD) (p : Fin 4) (q : PosShare TreeShare) (f : Buf (Elt F) ((rowM p).view.loc (c : Thread nD τ))) : sProp 𝕄 :=
  (rowM p).view.loc (c : Thread nD τ) ↦[(rowM p).view.set]{q} f

/-- The shares of row 0 the three copies read at. -/
abbrev qs : Fin 3 → PosShare TreeShare
  | 0 => fullShare.left
  | 1 => fullShare.right.left
  | 2 => fullShare.right.right

def barPay (c : Dev nD) (p : Fin 3) : sProp 𝕄 := iprop(∃ f, rowPts (peer p c) p.succ fullShare f)
def sendPay (c : Dev nD) (p : Fin 3) : sProp 𝕄 := iprop(∃ f, rowPts c 0 (qs p) f)
def recvPay (c : Dev nD) (p : Fin 3) : sProp 𝕄 :=
  iprop(∃ f, ⌜RowIs (F := F) p.succ f (sv m ρ (peer p c)) (gv m ρ (peer p c))⌝ ∗ rowPts c p.succ fullShare f)

/-- What duty `d` of a cell hands the cell's core. -/
def pay (c : Dev nD) : CK → Fin 3 → sProp 𝕄
  | none, d => barPay c d
  | some (false, p), _ => sendPay c p
  | some (true, p), _ => recvPay m ρ c p

instance pay_storable (c : Dev nD) (k : CK) (d : Fin 3) : BI.Storable (upEmb : UEmb _ 𝕄) (pay m ρ c k d) := by
  rcases k with _ | ⟨_ | _, p⟩ <;> unfold pay <;> dsimp only
  · unfold barPay; infer_instance
  · unfold sendPay; infer_instance
  · unfold recvPay; infer_instance

/-- One round: a barrier cell has three duties of one unit, a send or receive cell the duty `0` of one row's credit. -/
def lossRd : Rounds.Schedule (GSem nD τ sig) (Fin 3) 𝕄 where
  duties g r := if r = 0 ∧ g.1.2 = .tc then (match kind g.2 with | some none => Finset.univ | some (some _) => {0} | none => ∅) else ∅
  unitless _ := False
  amount g _ _ := if kind g.2 = some none then 1 else N
  payload g _ d := match kind g.2 with | some k => pay m ρ g.1.1 k d | none => iprop(emp)
  amount_pos g _ _ _ := by
    split
    · exact Nat.one_pos
    · exact N_pos

instance lossRd_payload_storable (g : GSem nD τ sig) (r : ℕ) (d : Fin 3) :
    BI.Storable (upEmb : UEmb _ 𝕄) ((lossRd (F := F) m ρ).payload g r d) := by
  show BI.Storable upEmb (match kind g.2 with | some k => pay m ρ g.1.1 k d | none => iprop(emp))
  split <;> infer_instance

section Sched
variable (c : Dev nD) (p d : Fin 3)

theorem kind_bar : kind (barCell c).2 = some none := kind_csem none
theorem kind_send : kind (sendCell c p).2 = some (some (false, p)) := kind_csem (some (false, p))
theorem kind_recv : kind (recvCell c p).2 = some (some (true, p)) := kind_csem (some (true, p))
theorem kind_copy (k : Fin 4) : kind (copyCell c k).2 = none := (by decide : ∀ k : Fin 4, kind (.dma (copyS k)) = none) k

theorem duties_bar : (lossRd (F := F) m ρ).duties (barCell c) 0 = Finset.univ := by dsimp only [lossRd]; rw [if_pos ⟨rfl, rfl⟩, kind_bar c]
theorem duties_send : (lossRd (F := F) m ρ).duties (sendCell c p) 0 = {0} := by dsimp only [lossRd]; rw [if_pos ⟨rfl, rfl⟩, kind_send c p]
theorem duties_recv : (lossRd (F := F) m ρ).duties (recvCell c p) 0 = {0} := by dsimp only [lossRd]; rw [if_pos ⟨rfl, rfl⟩, kind_recv c p]
theorem duties_later (g : GSem nD τ sig) : ∀ r, 1 ≤ r → (lossRd (F := F) m ρ).duties g r = ∅ :=
  fun r hr => by dsimp only [lossRd]; rw [if_neg fun h => by omega]

theorem amount_bar : (lossRd (F := F) m ρ).amount (barCell c) 0 d = 1 := by dsimp only [lossRd]; rw [if_pos (kind_bar c)]
theorem amount_send : (lossRd (F := F) m ρ).amount (sendCell c p) 0 d = N := by
  dsimp only [lossRd]; exact if_neg (by rw [kind_send c p]; exact fun h => by cases h)
theorem amount_recv : (lossRd (F := F) m ρ).amount (recvCell c p) 0 d = N := by
  dsimp only [lossRd]; exact if_neg (by rw [kind_recv c p]; exact fun h => by cases h)

theorem expect_bar : (lossRd (F := F) m ρ).expect (barCell c) 0 = 3 := by
  unfold Schedule.expect Schedule.amountOf
  rw [duties_bar, Finset.sum_congr rfl fun d _ => amount_bar m ρ c d]; rfl
theorem expect_send : (lossRd (F := F) m ρ).expect (sendCell c p) 0 = N := by
  unfold Schedule.expect Schedule.amountOf; rw [duties_send, Finset.sum_singleton, amount_send]
theorem expect_recv : (lossRd (F := F) m ρ).expect (recvCell c p) 0 = N := by
  unfold Schedule.expect Schedule.amountOf; rw [duties_recv, Finset.sum_singleton, amount_recv]

theorem payload_bar : (lossRd (F := F) m ρ).payload (barCell c) 0 d = barPay c d := by dsimp only [lossRd]; rw [kind_bar c]; rfl
theorem payload_send : (lossRd (F := F) m ρ).payload (sendCell c p) 0 d = sendPay c p := by dsimp only [lossRd]; rw [kind_send c p]; rfl
theorem payload_recv : (lossRd (F := F) m ρ).payload (recvCell c p) 0 d = recvPay m ρ c p := by dsimp only [lossRd]; rw [kind_recv c p]; rfl

/-- What a wait for a whole round brings: the three peers' landing rows; the share of row 0; the filled row. -/
theorem rest_bar : bigSep ((lossRd (F := F) m ρ).duties (barCell c) 0 \ ∅) (fun d => (lossRd (F := F) m ρ).payload (barCell c) 0 d)
    = iprop(barPay c 0 ∗ barPay c 1 ∗ barPay c 2) := by
  rw [Finset.sdiff_empty, duties_bar, Ring.bigSep_fin3, payload_bar, payload_bar, payload_bar]
theorem rest_send : bigSep ((lossRd (F := F) m ρ).duties (sendCell c p) 0 \ ∅) (fun d => (lossRd (F := F) m ρ).payload (sendCell c p) 0 d) = sendPay c p := by
  rw [Finset.sdiff_empty, duties_send, bigSep_singleton, payload_send]
theorem rest_recv : bigSep ((lossRd (F := F) m ρ).duties (recvCell c p) 0 \ ∅) (fun d => (lossRd (F := F) m ρ).payload (recvCell c p) 0 d) = recvPay m ρ c p := by
  rw [Finset.sdiff_empty, duties_recv, bigSep_singleton, payload_recv]

end Sched

/-! ## What each core owes at launch; the levels -/

/-- The receive credits device `c` owes its peers, the first copy's last so that it peels first. -/
def OR2 (c : Dev nD) : CellTallies nD τ sig Unit := tallyAt (recvCell (peer 2 c) 2) () N
def OR1 (c : Dev nD) : CellTallies nD τ sig Unit := OR2 c + tallyAt (recvCell (peer 1 c) 1) () N
def OR (c : Dev nD) : CellTallies nD τ sig Unit := OR1 c + tallyAt (recvCell (peer 0 c) 0) () N
/-- With the barrier units it still owes: before its third signal, its second, its first. -/
def OB2 (c : Dev nD) : CellTallies nD τ sig Unit := OR c + tallyAt (barCell (peer 2 c)) () 1
def OB1 (c : Dev nD) : CellTallies nD τ sig Unit := OB2 c + tallyAt (barCell (peer 1 c)) () 1
def O₀ (c : Dev nD) : CellTallies nD τ sig Unit := OB1 c + tallyAt (barCell (peer 0 c)) () 1

def L (g : GSem nD τ sig) : Finset Unit := if g.1.2 = .tc then {()} else ∅
/-- Barrier cells at 1, receive cells at 2, everything else (staging, copies, send) at 0. -/
def lv (g : GSem nD τ sig) (_ : Unit) : ℕ := match kind g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar c]
theorem lv_recv (c : Dev nD) (p : Fin 3) : lv (recvCell c p) () = 2 := by unfold lv; rw [kind_recv c p]

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h
theorem add_pos_or {A B : CellTallies nD τ sig Unit} {g : GSem nD τ sig} {u : Unit} (h : 0 < (A + B) g u) : 0 < A g u ∨ 0 < B g u := by
  rw [Pi.add_apply, Finsupp.add_apply] at h; omega

theorem OR_pos {c : Dev nD} {g : GSem nD τ sig} {u : Unit} (h : 0 < OR c g u) : ∃ d p, g = recvCell d p := by
  unfold OR OR1 OR2 at h
  rcases add_pos_or h with h | h
  · rcases add_pos_or h with h | h <;> exact ⟨_, _, tally_pos h⟩
  · exact ⟨_, _, tally_pos h⟩
theorem O₀_pos {c : Dev nD} {g : GSem nD τ sig} {u : Unit} (h : 0 < O₀ c g u) : (∃ d p, g = recvCell d p) ∨ ∃ d, g = barCell d := by
  unfold O₀ OB1 OB2 at h
  rcases add_pos_or h with h | h
  · rcases add_pos_or h with h | h
    · rcases add_pos_or h with h | h
      · exact .inl (OR_pos h)
      · exact .inr ⟨_, tally_pos h⟩
    · exact .inr ⟨_, tally_pos h⟩
  · exact .inr ⟨_, tally_pos h⟩

/-- A core may wait on a cell of level at most 1 while it owes receive credits only. -/
theorem mayWait_OR (c : Dev nD) (sm : SemLoc sig) (h : lv ((c : Thread nD τ), sm) () ≤ 1) :
    (levAts L lv : sProp 𝕄) ⊢ MayWait (c : Thread nD τ) sm () (OR c) :=
  MayOwe.of_cut (L := L) (lev := lv) 1 (fun p hp => by rw [Finset.mem_singleton.mp hp, L_tc]; exact Finset.mem_singleton_self _)
    (fun g u hg => by obtain ⟨d, p, rfl⟩ := OR_pos hg; exact Finset.mem_singleton_self _)
    (fun p hp => by rw [Finset.mem_singleton.mp hp]; exact h)
    (fun g u hg => by obtain ⟨d, p, rfl⟩ := OR_pos hg; rw [lv_recv]; decide)

theorem mayWait_stage (c : Dev nD) (sm : SemLoc sig) (h : kind sm = none) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, p, rfl⟩ | ⟨d, rfl⟩ <;> exact Finset.mem_singleton_self _)
      (fun p hp => by rw [Finset.mem_singleton.mp hp]; unfold lv; dsimp only; rw [h])
      (fun g u hg => by
        rcases O₀_pos hg with ⟨d, p, rfl⟩ | ⟨d, rfl⟩
        · rw [lv_recv]; decide
        · rw [lv_bar]; decide)
  · rw [MayWait_zero]; iintro -; iempintro

theorem mayWait_copy (c : Dev nD) (k : Fin 4) : (levAts L lv : sProp 𝕄) ⊢ MayWait (c : Thread nD τ) (.dma (copyS k)) () (OR c) :=
  mayWait_OR c _ (by unfold lv; rw [kind_copy]; decide)
theorem mayWait_bar (c : Dev nD) : (levAts L lv : sProp 𝕄) ⊢ MayWait (c : Thread nD τ) (.reg barS) () (OR c) :=
  mayWait_OR c _ (le_of_eq (lv_bar c))

/-! ## What the buffers hold -/

/-- A load through a rectangle of a memref, after a write through the squeeze of its slice there, reads what was written. -/
theorem load_of_squeeze_write {κ : Kind} {cs : Space} {s s' : Shape} {e : EltTy} (M : Memref sig κ cs s e)
    (r : Rect s) (hr : ∀ a, r.stride a = 1) (hq : r.shape.Squeezes s') (hc : r.shape.ShapeCasts s') (hc' : s'.ShapeCasts r.shape)
    (f : M.view.ty.Contents (Elt F)) (X : s'.Idx → Elt F e) :
    M.view.readAt (Elt F) r.toLoadRect (((M.slice r hr).squeeze s' hq).view.write (Elt F) f X Finset.univ) = shapeCast r.shape X hc' := by
  have h1 := View.read_write_univ (Val := Elt F) (v := ((M.slice r hr).squeeze s' hq).view) f X
  rw [Memref.read_squeeze_slice M r hr hq hc] at h1
  exact (shapeCast_shapeCast _ hc hc').symm.trans (congrArg (fun w => shapeCast r.shape w hc') h1)

/-- A slot's load after its copy landed reads the piece. -/
theorem slot_load (k : Fin 4) (f : (cc0_scratch0 : Ref sig .tc).ty.Contents (Elt F)) (X : Vec F S1024x1024 .f32)
    (h : S1024x1024.ShapeCasts S1x1024x1024) :
    bM.view.readAt (Elt F) (slotR k).toLoadRect ((slotM k).view.write (Elt F) f X Finset.univ) = shapeCast S1x1024x1024 X h :=
  load_of_squeeze_write bM (slotR k) (fun _ => rfl) squeezes_S1x1024x1024_S1024x1024 h.symm h f X

/-- Two copies of one row's contents at two shares are one copy at their sum. -/
theorem pts_join {c : Dev nD} {p : Fin 4} {q q₁ q₂ : PosShare TreeShare} (h : q ∈ q₁ ·? q₂) (f g) :
    iprop(rowPts (F := F) c p q₁ f ∗ rowPts c p q₂ g) ⊢ rowPts c p q f :=
  pure_elim _ (pointsTo_agree (Ix := Unit) (Name := ℕ) (U := UU) (Lvl := ℕ)) fun hag => by
    rw [show rowPts (F := F) c p q₂ g = rowPts c p q₂ f from pointsTo_congr (fun i hi => (hag i (Finset.mem_inter.mpr ⟨hi, hi⟩)).1.symm)]
    exact (pointsTo_share h).2

/-- The two columns a row's two sums are stored in. -/
theorem cols_disjoint (p : Fin 4) : Disjoint (cM.view.slice (colR p 0)).set (cM.view.slice (colR p 1)).set :=
  View.disjoint_slice_of_sep cM.view (colR p 0) (colR p 1) 2 rfl rfl (by decide +revert)

/-- After the two stores row 0 holds the two sums. -/
theorem row_stored (f : (cc0_scratch1 : Ref sig .tc).ty.Contents (Elt F)) (s g : FVec F S512x1 .f32) :
    RowIs 0 ((cM.view.slice (colR 0 1)).write (Elt F) ((cM.view.slice (colR 0 0)).write (Elt F) f (colOf s) Finset.univ) (colOf g) Finset.univ) s g := by
  constructor
  · rw [View.readAt_rect, View.read_slice_write_slice_of_disjoint, View.read_write_univ]
    rw [View.setOn_univ]; exact cols_disjoint 0
  · rw [View.readAt_rect, View.read_write_univ]

/-- A row's elements, by their first coordinate; a slot's, likewise. -/
theorem row_set (p : Fin 4) : (rowM p).view.set = (rowR p).set := (View.set_reshape _ _).trans (View.set_slice_whole _ _)
theorem slot_set (k : Fin 4) : (slotM k).view.set = (slotR k).set := (View.set_reshape _ _).trans (View.set_slice_whole _ _)
theorem mem_row (p : Fin 4) (y : S4x512x8.Idx) : y ∈ (rowM p).view.set ↔ (y 0).val = p.val := by
  rw [row_set, Rect.mem_set_unit]
  have h1 : (y 1).val < 512 := (y 1).isLt
  have h2 : (y 2).val < 8 := (y 2).isLt
  constructor
  · intro H; have a0 : p.val ≤ (y 0).val ∧ (y 0).val < p.val + 1 := H 0; omega
  · intro H i; fin_cases i
    · show p.val ≤ (y 0).val ∧ (y 0).val < p.val + 1; omega
    · show 0 ≤ (y 1).val ∧ (y 1).val < 0 + 512; omega
    · show 0 ≤ (y 2).val ∧ (y 2).val < 0 + 8; omega
theorem mem_slot (k : Fin 4) (y : S4x1024x1024.Idx) : y ∈ (slotM k).view.set ↔ (y 0).val = k.val := by
  rw [slot_set, Rect.mem_set_unit]
  have h1 : (y 1).val < 1024 := (y 1).isLt
  have h2 : (y 2).val < 1024 := (y 2).isLt
  constructor
  · intro H; have a0 : k.val ≤ (y 0).val ∧ (y 0).val < k.val + 1 := H 0; omega
  · intro H i; fin_cases i
    · show k.val ≤ (y 0).val ∧ (y 0).val < k.val + 1; omega
    · show 0 ≤ (y 1).val ∧ (y 1).val < 0 + 1024; omega
    · show 0 ≤ (y 2).val ∧ (y 2).val < 0 + 1024; omega
theorem rows_disjoint : ∀ p p' : Fin 4, p ≠ p' → Disjoint (rowM p).view.set (rowM p').view.set := by
  intro p p' hne; rw [Finset.disjoint_left]; intro y hy hy'; rw [mem_row] at hy hy'; exact hne (Fin.ext (hy.symm.trans hy'))
theorem rows_cover : (Finset.univ : Finset (Fin 4)).biUnion (β := S4x512x8.Idx) (fun p => (rowM p).view.set) = Finset.univ := by
  ext y; simp only [Finset.mem_biUnion, Finset.mem_univ, true_and, iff_true]; exact ⟨(y 0).cast (by decide), by rw [mem_row]; rfl⟩
theorem slots_disjoint : ∀ k k' : Fin 4, k ≠ k' → Disjoint (slotM k).view.set (slotM k').view.set := by
  intro k k' hne; rw [Finset.disjoint_left]; intro y hy hy'; rw [mem_slot] at hy hy'; exact hne (Fin.ext (hy.symm.trans hy'))
theorem slots_cover : (Finset.univ : Finset (Fin 4)).biUnion (β := S4x1024x1024.Idx) (fun k => (slotM k).view.set) = Finset.univ := by
  ext y; simp only [Finset.mem_biUnion, Finset.mem_univ, true_and, iff_true]; exact ⟨(y 0).cast (by decide), by rw [mem_slot]; rfl⟩

/-- Column `j` inside one row, and that it is the row's column. -/
abbrev colIn (j : Fin 2) : Rect S1x512x8 := Rect.unit (s := S1x512x8) ![0, 0, j.val] S1x512x1.size (by revert j; decide)
theorem col_emb (p : Fin 4) (j : Fin 2) (x : S1x512x1.Idx) : (colR p j).emb x = (rowR p).emb ((colIn j).emb x) := by
  funext a; apply Fin.ext
  rw [Rect.emb_apply, Rect.emb_apply, Rect.emb_apply]
  fin_cases a
  · show p.val + 1 * (x 0).val = p.val + 1 * (0 + 1 * (x 0).val); omega
  · show 0 + 1 * (x 1).val = 0 + 1 * (0 + 1 * (x 1).val); omega
  · show j.val + 1 * (x 2).val = 0 + 1 * (j.val + 1 * (x 2).val); omega
theorem col_read (p : Fin 4) (j : Fin 2) (f : (cc0_scratch1 : Ref sig .tc).ty.Contents (Elt F)) :
    cM.view.readAt (Elt F) (colR p j).toLoadRect f = fun x => cM.view.readAt (Elt F) (rowR p).toLoadRect f ((colIn j).emb x) := by
  funext x
  exact congrArg f (col_emb p j x)

/-- A column's elements lie in its row. -/
theorem col_sub_row (p : Fin 4) (j : Fin 2) : (cM.view.slice (colR p j)).set ⊆ (rowM p).view.set := by
  intro y hy
  rw [View.set_slice_whole, Rect.mem_set_unit] at hy
  have a0 : p.val ≤ (y 0).val ∧ (y 0).val < p.val + 1 := hy 0
  rw [mem_row]; omega

/-- A row landed in row `p` of another buffer holds there what it held. -/
theorem row_landed (p : Fin 4) (f f' : (cc0_scratch1 : Ref sig .tc).ty.Contents (Elt F)) (s g : FVec F S512x1 .f32) (h : RowIs 0 f s g) :
    RowIs p ((rowM p).view.write (Elt F) f' ((rowM 0).view.read (Elt F) f) Finset.univ) s g := by
  have hc : S1x512x8.ShapeCasts S512x8 := by decide
  have h3 : cM.view.readAt (Elt F) (rowR p).toLoadRect ((rowM p).view.write (Elt F) f' ((rowM 0).view.read (Elt F) f) Finset.univ)
      = cM.view.readAt (Elt F) (rowR 0).toLoadRect f := by
    refine (load_of_squeeze_write cM (rowR p) (fun _ => rfl) squeezes_S1x512x8_S512x8 hc hc.symm f' _).trans ?_
    rw [Memref.read_squeeze_slice cM (rowR 0) (fun _ => rfl) squeezes_S1x512x8_S512x8 hc f]
    exact shapeCast_shapeCast _ _ _
  refine ⟨Eq.trans ?_ h.1, Eq.trans ?_ h.2⟩
  · rw [col_read, col_read, h3]
  · rw [col_read, col_read, h3]

end Cert.Loss
-- ==== Proof.Ops.lean ====
/-
# `Ops`: one rule for each kind of effect in the kernel's body

A copy's start and its wait, a signal, the barrier wait, a row's copy to a peer and the two waits it ends in, and the
loads and stores of the buffers, each stated on what this kernel holds there.
-/
module

public import proofs.«01_k».proof.Proof.Schedule

@[expose] public section

noncomputable section

namespace Cert.Loss

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`'s core. -/
abbrev wpc (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- What device `c` owes, whatever it has waited on. -/
def owesE (c : Dev nD) (O : CellTallies nD τ sig Unit) : sProp 𝕄 := iprop(∃ W, owes (c : Thread nD τ) O W)

/-! ## The invariants and the rounds reached, of every cell -/

/-- Every cell's invariant, under the names `K` the launch allocated them at, and that round 0 of every cell is reached. -/
def records (K : Dev nD × CK → ℕ) : sProp 𝕄 :=
  iprop((bigSep Finset.univ fun ck : Dev nD × CK => cellInv ER (lossRd m ρ) (K ck) (kcell ck))
    ∗ bigSep Finset.univ fun ck : Dev nD × CK => reached ER (kcell ck) 0)
instance records_persistent (K : Dev nD × CK → ℕ) : BI.Persistent (records m ρ K) := by unfold records; infer_instance

theorem inv_at (K : Dev nD × CK → ℕ) (ck : Dev nD × CK) : records m ρ K ⊢ cellInv ER (lossRd m ρ) (K ck) (kcell ck) := by
  unfold records
  iintro ⟨H, -⟩
  iapply (show (bigSep Finset.univ fun ck : Dev nD × CK => (cellInv ER (lossRd m ρ) (K ck) (kcell ck) : sProp 𝕄)) ⊢ cellInv ER (lossRd m ρ) (K ck) (kcell ck) from
    bigSep_elim (Finset.mem_univ ck)); iexact H
theorem reached_at (K : Dev nD × CK → ℕ) (ck : Dev nD × CK) : records m ρ K ⊢ reached ER (kcell ck) 0 := by
  unfold records
  iintro ⟨-, H⟩
  iapply (show (bigSep Finset.univ fun ck : Dev nD × CK => (reached ER (kcell ck) 0 : sProp 𝕄)) ⊢ reached ER (kcell ck) 0 from
    bigSep_elim (Finset.mem_univ ck)); iexact H

/-! ## The local copies -/

/-- `W` whole; a slot at any contents; a slot holding its piece. -/
def wPts (c : Dev nD) : sProp 𝕄 := (c : Thread nD τ).loc main_arg1 ↦{fullShare} (s₀ m ρ).mem ((c : Thread nD τ).loc main_arg1)
def slotAny (c : Dev nD) (k : Fin 4) : sProp 𝕄 := iprop(∃ f, (slotM k).view.loc (c : Thread nD τ) ↦[(slotM k).view.set]{fullShare} f)
def slotHas (c : Dev nD) (k : Fin 4) : sProp 𝕄 :=
  iprop(∃ f, ⌜bM.view.readAt (Elt F) (slotR k).toLoadRect f = wv m ρ c k⌝ ∗ ((slotM k).view.loc (c : Thread nD τ) ↦[(slotM k).view.set]{fullShare} f))

/-- A copy in flight, with the rest of `W` beside it. -/
def flying (c : Dev nD) (k : Fin 4) : sProp 𝕄 :=
  iprop((∃ fd, Transfers.Flight EC (c : Thread nD τ) (.dma (copyS k)) () NW
      iprop(((slotM k).view.loc (c : Thread nD τ) ↦[(slotM k).view.set]{fullShare}
          ((slotM k).view.write (Elt F) fd ((pieceM c k).view.read (Elt F) ((s₀ m ρ).mem ((c : Thread nD τ).loc main_arg1))) Finset.univ))
        ∗ ((pieceM c k).view.loc (c : Thread nD τ) ↦[(pieceM c k).view.set]{fullShare} (s₀ m ρ).mem ((c : Thread nD τ).loc main_arg1))))
    ∗ ((pieceM c k).view.loc (c : Thread nD τ) ↦[Finset.univ \ (pieceM c k).view.set]{fullShare} (s₀ m ρ).mem ((c : Thread nD τ).loc main_arg1)))

theorem wp_copy_start (c : Dev nD) (k : Fin 4) {hsrc : (pieceM c k).view.WordExact} {hdst : (slotM k).view.WordExact}
    {hsem : DmaTarget.Typed (nD := nD) (τ := τ) (p := Proc.tc) .hbm (.dma (copyS k)) (.here (slotM k))}
    {α : Type} {Q : α → sProp 𝕄} {e : PUnit → Prog (TpuEff nD τ sig (Elt F) Λ₀ .tc) α} :
    iprop(wPts m ρ c ∗ slotAny c k ∗ semVal (copyCell c k) 0)
      ⊢ iprop((flying m ρ c k -∗ wpc c (e ⟨⟩) Q) -∗ wpc c (.op (.enqueueDma (pieceM c k) (.here (slotM k)) (.dma (copyS k)) hsrc hdst hsem) e) Q) := by
  unfold wPts slotAny flying
  iintro ⟨HW, ⟨%fd, HS⟩, Hv⟩ Hk
  ihave HW2 := (pointsTo_split_subset (Finset.subset_univ ((pieceM c k).view.set))).1 $$ HW
  icases HW2 with ⟨HP, HR⟩
  iapply (Transfers.wp_dmaLocal EC 𝒱₀ (c : Thread nD τ) none (src := pieceM c k) (dst := slotM k) (sm := .dma (copyS k)) () NW (NW_slot k) NW_pos (Finset.Subset.refl _)) $$ [HP HS Hv]
  · isplitl [HP]; · iexact HP
    isplitl [HS]; · iexact HS
    iexact Hv
  iintro HF
  iapply Hk
  isplitl [HF]
  · iexists fd; iexact HF
  iexact HR

theorem wp_copy_wait (c : Dev nD) (k : Fin 4) {hsrc : (pieceM c k).view.WordExact} {hdst : (slotM k).view.WordExact}
    {α : Type} {Q : α → sProp 𝕄} {e : PUnit → Prog (TpuEff nD τ sig (Elt F) Λ₀ .tc) α} :
    iprop(flying m ρ c k ∗ owesE c (OR c) ∗ levAts L lv)
      ⊢ iprop(((wPts m ρ c ∗ slotHas m ρ c k ∗ semVal (copyCell c k) 0 ∗ owesE c (OR c)) -∗ wpc c (e ⟨⟩) Q)
          -∗ wpc c (.op (.waitDma2 (copyS k) (pieceM c k) (slotM k) hsrc hdst) e) Q) := by
  unfold wPts slotHas flying owesE
  iintro ⟨⟨⟨%fd, HF⟩, HR⟩, ⟨%W, HO⟩, #Hlev⟩ Hk
  iapply (Transfers.wp_waitLocalO EC 𝒱₀ (c : Thread nD τ) none () (NW_slot k)) $$ [HF HO]
  · isplitl [HF]; · iexact HF
    isplitl [HO]; · iexact HO
    iapply (mayWait_copy c k); iexact Hlev
  iintro ⟨⟨HS, HP⟩, Hv, HO⟩
  iapply Hk
  isplitl [HP HR]
  · iapply (pointsTo_split_subset (Finset.subset_univ ((pieceM c k).view.set))).2
    isplitl [HP] <;> iassumption
  isplitl [HS]
  · iexists _; isplitr; swap; · iexact HS
    ipureintro; exact slot_load k _ _ _
  isplitl [Hv]; · iexact Hv
  iexists _; iexact HO

/-! ## The barrier -/

theorem wp_sig (K : Dev nD × CK → ℕ) (c : Dev nD) (p : Fin 3) (O : CellTallies nD τ sig Unit) {n : ℕ} (hn : 1 = n)
    {α : Type} {Q : α → sProp 𝕄} {e : PUnit → Prog (TpuEff nD τ sig (Elt F) Λ₀ .tc) α} :
    iprop(records m ρ K ∗ owesE c (O + tallyAt (barCell (peer p c)) () 1) ∗ dutyTok ER (barCell (peer p c)) 0 p ∗ (∃ f, rowPts c p.succ fullShare f))
      ⊢ iprop((owesE c O -∗ wpc c (e ⟨⟩) Q) -∗ wpc c (.op (.semSignal (peer p c : Thread nD τ) barS n) e) Q) := by
  subst hn
  unfold owesE
  iintro ⟨#HI, ⟨%W, HO⟩, Ht, Hrow⟩ Hk
  iapply (Rounds.wp_signal 𝒱₀ ER (lossRd m ρ) (c : Thread nD τ) none (dst := (peer p c : Thread nD τ)) (κ := K (peer p c, none))
      (d := p) (by rw [duties_bar]; exact Finset.mem_univ _) (amount_bar m ρ (peer p c) p) () O rfl) $$ [HO Ht Hrow]
  · isplitr; · iapply (inv_at m ρ K (peer p c, none)); iexact HI
    isplitl [HO]; · iexact HO
    isplitl [Ht]; · iexact Ht
    isplitl [Hrow]
    · rw [payload_bar]; unfold barPay; rw [peer_peer]; iexact Hrow
    iapply (reached_at m ρ K (peer p c, none)); iexact HI
  iintro HO
  iapply Hk
  iexists W; iexact HO

theorem wp_bar_wait (K : Dev nD × CK → ℕ) (c : Dev nD) {n : ℕ} (hn : n = 3)
    {α : Type} {Q : α → sProp 𝕄} {e : PUnit → Prog (TpuEff nD τ sig (Elt F) Λ₀ .tc) α} :
    iprop(records m ρ K ∗ owesE c (OR c) ∗ cred (tallyAt (barCell c) () 3) ∗ levAts L lv ∗ atPos ER (barCell c) 0 ∅ 0)
      ⊢ iprop(((owesE c (OR c) ∗ semVal (barCell c) 0 ∗ barPay c 0 ∗ barPay c 1 ∗ barPay c 2) -∗ wpc c (e ⟨⟩) Q)
          -∗ wpc c (.op (.semWait barS n) e) Q) := by
  subst hn
  unfold owesE
  iintro ⟨#HI, ⟨%W, HO⟩, Hc, #Hlev, Hat⟩ Hk
  iapply (Rounds.wp_wait_rest_token 𝒱₀ ER (lossRd m ρ) (c : Thread nD τ) none (κ := K (c, none))
      (wpE_semWait_eq 𝒱₀ (c : Thread nD τ) none Set.univ) (Set.mem_univ _) () (O := OR c) (W := W) (R := 0) (m := 0) (T := ∅)
      (by rw [expect_bar])) $$ [Hc HO Hat]
  · isplitr; · iapply (inv_at m ρ K (c, none)); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (lossRd m ρ) (Set.mem_univ (K (c, none))) (fun h => h) (R := 0 + 1) (duties_later m ρ (barCell c))) $$ [Hat] with Hz
  · isplitr; · iapply (inv_at m ρ K (c, none)); iexact HI
    iexact Hat
  iapply Hk
  isplitl [HO]; · iexists _; iexact HO
  isplitl [Hz]; · iexact Hz
  iexact Hp

/-! ## The rows' copies -/

set_option maxHeartbeats 1000000 in
theorem wp_row_send (K : Dev nD × CK → ℕ) (c n : Dev nD) (p : Fin 3) (hn : n = peer p c) (O₁ O : CellTallies nD τ sig Unit)
    (hO : O₁ = O + tallyAt (recvCell (peer p c) p) () N)
    {hsc : (rowM p.succ : Memref sig (Dev.tc n : Thread nD τ).2.kind .vmem S512x8 .f32).view.ref.isScScratch = false}
    {hsrc : (rowM 0).view.WordExact} {hdst : (rowM p.succ).view.WordExact}
    {hsem : DmaTarget.Typed .vmem (.dma (recvS p)) (.remote (Dev.tc n : Thread nD τ) (rowM p.succ) (.dma (sendS p)) hsc)}
    {α : Type} {Q : α → sProp 𝕄} {e : PUnit → Prog (TpuEff nD τ sig (Elt F) Λ₀ .tc) α} :
    iprop(records m ρ K ∗ (∃ f, ⌜RowIs (F := F) 0 f (sv m ρ c) (gv m ρ c)⌝ ∗ rowPts c 0 (qs p) f) ∗ barPay c p ∗ owesE c O₁
        ∗ dutyTok ER (sendCell c p) 0 0 ∗ dutyTok ER (recvCell (peer p c) p) 0 0)
      ⊢ iprop(((cred (tallyAt (sendCell c p) () N) ∗ owesE c O) -∗ wpc c (e ⟨⟩) Q)
          -∗ wpc c (.op (.enqueueDma (rowM 0) (.remote (Dev.tc n : Thread nD τ) (rowM p.succ) (.dma (sendS p)) hsc) (.dma (recvS p)) hsrc hdst hsem) e) Q) := by
  subst hn
  unfold owesE barPay
  iintro ⟨#HI, ⟨%f, %hf, Hrow⟩, ⟨%fn, Hland⟩, ⟨%W, HO⟩, HtS, HtV⟩ Hk
  iapply (Rounds.wp_send_pointsTo 𝒱₀ ER (lossRd m ρ) (c : Thread nD τ) none (κ₁ := K (c, some (false, p))) (κ₂ := K (peer p c, some (true, p)))
    (c' := (peer p c : Thread nD τ)) (src := rowM 0) (dst := rowM p.succ) (sS := .dma (sendS p)) (sem := .dma (recvS p)) (q := qs p) (r₁ := 0) (r₂ := 0) (d₁ := 0) (d₂ := 0) (fs := f) (fd := fn)
    (by rw [duties_send]; exact Finset.mem_singleton_self _) (by rw [duties_recv]; exact Finset.mem_singleton_self _)
    () () N rfl (amount_send m ρ c p 0) (amount_recv m ρ (peer p c) p 0) O hO (W := W)
    (by rw [payload_send]; unfold sendPay; iintro H; iexists f; iexact H)
    (by
      rw [payload_recv]; unfold recvPay; rw [peer_peer]
      iintro H; iexists _; isplitr; swap; · iexact H
      ipureintro; exact row_landed p.succ f fn _ _ hf)) $$ [Hrow Hland HO HtS HtV]
  · isplitr; · iapply (inv_at m ρ K (c, some (false, p))); iexact HI
    isplitr; · iapply (inv_at m ρ K (peer p c, some (true, p))); iexact HI
    isplitl [Hrow]; · iexact Hrow
    isplitl [Hland]; · iexact Hland
    isplitl [HO]; · iexact HO
    isplitl [HtS]; · iexact HtS
    isplitr; · iapply (reached_at m ρ K (c, some (false, p))); iexact HI
    isplitl [HtV]; · iexact HtV
    iapply (reached_at m ρ K (peer p c, some (true, p))); iexact HI
  iintro ⟨Hc, HO⟩
  iapply Hk
  isplitl [Hc]; · iexact Hc
  iexists W; iexact HO

theorem wp_send_wait (K : Dev nD × CK → ℕ) (c : Dev nD) (p : Fin 3)
    {hsrc : (rowM p.succ).view.WordExact} {hdst : (rowM 0).view.WordExact}
    {α : Type} {Q : α → sProp 𝕄} {e : PUnit → Prog (TpuEff nD τ sig (Elt F) Λ₀ .tc) α} :
    iprop(records m ρ K ∗ cred (tallyAt (sendCell c p) () N) ∗ owesE c 0 ∗ atPos ER (sendCell c p) 0 ∅ 0)
      ⊢ iprop(((owesE c 0 ∗ semVal (sendCell c p) 0 ∗ sendPay c p) -∗ wpc c (e ⟨⟩) Q)
          -∗ wpc c (.op (.waitDma2 (sendS p) (rowM p.succ) (rowM 0) hsrc hdst) e) Q) := by
  unfold owesE
  iintro ⟨#HI, Hc, ⟨%W, HO⟩, Hat⟩ Hk
  iapply (Rounds.wp_wait_rest_token 𝒱₀ ER (lossRd m ρ) (c : Thread nD τ) none (κ := K (c, some (false, p)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m ρ K (c, some (false, p))); iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c p)) $$ Hpay
  imod (Rounds.cell_close ER (lossRd m ρ) (Set.mem_univ (K (c, some (false, p)))) (fun h => h) (R := 0 + 1) (duties_later m ρ (sendCell c p))) $$ [Hat] with Hz
  · isplitr; · iapply (inv_at m ρ K (c, some (false, p))); iexact HI
    iexact Hat
  iapply Hk
  isplitl [HO]; · iexists _; iexact HO
  isplitl [Hz]; · iexact Hz
  iexact Hp

theorem wp_recv_wait (K : Dev nD × CK → ℕ) (c : Dev nD) (p : Fin 3)
    {hsrc : (rowM 0).view.WordExact} {hdst : (rowM p.succ).view.WordExact}
    {α : Type} {Q : α → sProp 𝕄} {e : PUnit → Prog (TpuEff nD τ sig (Elt F) Λ₀ .tc) α} :
    iprop(records m ρ K ∗ cred (tallyAt (recvCell c p) () N) ∗ owesE c 0 ∗ atPos ER (recvCell c p) 0 ∅ 0)
      ⊢ iprop(((owesE c 0 ∗ semVal (recvCell c p) 0 ∗ recvPay m ρ c p) -∗ wpc c (e ⟨⟩) Q)
          -∗ wpc c (.op (.waitDma2 (recvS p) (rowM 0) (rowM p.succ) hsrc hdst) e) Q) := by
  unfold owesE
  iintro ⟨#HI, Hc, ⟨%W, HO⟩, Hat⟩ Hk
  iapply (Rounds.wp_wait_rest_token 𝒱₀ ER (lossRd m ρ) (c : Thread nD τ) none (κ := K (c, some (true, p)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m ρ K (c, some (true, p))); iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c p)) $$ Hpay
  imod (Rounds.cell_close ER (lossRd m ρ) (Set.mem_univ (K (c, some (true, p)))) (fun h => h) (R := 0 + 1) (duties_later m ρ (recvCell c p))) $$ [Hat] with Hz
  · isplitr; · iapply (inv_at m ρ K (c, some (true, p))); iexact HI
    iexact Hat
  iapply Hk
  isplitl [HO]; · iexists _; iexact HO
  isplitl [Hz]; · iexact Hz
  iexact Hp

/-! ## Loads and stores -/

abbrev xR : Rect S512x1024 := Rect.unit (s := S512x1024) ![0, 0] S512x1024.size inb_S512x1024_S512x1024_0_0
abbrev vR : Rect S512x1 := Rect.unit (s := S512x1) ![0, 0] S512x1.size inb_S512x1_S512x1_0_0

theorem hz : (![0, 0] : Fin 2 → Nat) = fun _ => 0 := funext fun a => by fin_cases a <;> rfl

theorem read_x (f : (cc0_stg0_0 : Ref sig .tc).ty.Contents (Elt F)) : xM.view.readAt (Elt F) xR.toLoadRect f = f :=
  Memref.readAt_unit_zero (Elt F) cc0_stg0_0 hz _ f
theorem read_l (f : (cc0_stg1_0 : Ref sig .tc).ty.Contents (Elt F)) : lM.view.readAt (Elt F) vR.toLoadRect f = f :=
  Memref.readAt_unit_zero (Elt F) cc0_stg1_0 hz _ f
theorem write_out (f w : (cc0_stg2_0 : Ref sig .tc).ty.Contents (Elt F)) :
    (oM.access vR : View sig .tc _ _ _).write (Elt F) f w Finset.univ = w :=
  Memref.write_access_unit_zero_univ (Elt F) cc0_stg2_0 hz _ f w
theorem slot_sub (k : Fin 4) : (bM.access (slotR k) : View sig .tc _ _ _).set ⊆ (slotM k).view.set := by
  intro y hy
  rw [slot_set]
  rw [show (bM.access (slotR k) : View sig .tc _ _ _).set = (slotR k).set from View.set_slice_whole cc0_scratch0 (slotR k)] at hy
  exact hy

abbrev xPts (c : Dev nD) : sProp 𝕄 := xM.view.loc (c : Thread nD τ) ↦{fullShare} xv m ρ c
abbrev lPts (c : Dev nD) : sProp 𝕄 := lM.view.loc (c : Thread nD τ) ↦{fullShare} lv' m ρ c

theorem wp_load_x (c : Dev nD) {hl : xM.view.LoadsAt xR.toLoadRect} {α : Type} {Q : α → sProp 𝕄}
    {e : (xR.shape.Idx → Elt F .f32) → Prog (TpuEff nD τ sig (Elt F) Λ₀ .tc) α} :
    xPts m ρ c ⊢ iprop((xPts m ρ c -∗ wpc c (e (xv m ρ c)) Q) -∗ wpc c (.op (.load xM xR.toLoadRect hl) e) Q) := by
  iintro H Hk
  iapply (wp_load 𝒱₀ (c : Thread nD τ) none Set.univ (m := xM) (Finset.subset_univ _)) $$ H; iintro H
  rw [read_x]
  iapply Hk; iexact H
theorem wp_load_l (c : Dev nD) {hl : lM.view.LoadsAt vR.toLoadRect} {α : Type} {Q : α → sProp 𝕄}
    {e : (vR.shape.Idx → Elt F .i32) → Prog (TpuEff nD τ sig (Elt F) Λ₀ .tc) α} :
    lPts m ρ c ⊢ iprop((lPts m ρ c -∗ wpc c (e (lv' m ρ c)) Q) -∗ wpc c (.op (.load lM vR.toLoadRect hl) e) Q) := by
  iintro H Hk
  iapply (wp_load 𝒱₀ (c : Thread nD τ) none Set.univ (m := lM) (Finset.subset_univ _)) $$ H; iintro H
  rw [read_l]
  iapply Hk; iexact H

theorem wp_load_slot (c : Dev nD) (k : Fin 4) {hl : bM.view.LoadsAt (slotR k).toLoadRect} {α : Type} {Q : α → sProp 𝕄}
    {e : ((slotR k).shape.Idx → Elt F .f32) → Prog (TpuEff nD τ sig (Elt F) Λ₀ .tc) α} :
    slotHas m ρ c k ⊢ iprop((slotAny c k -∗ wpc c (e (wv m ρ c k)) Q) -∗ wpc c (.op (.load bM (slotR k).toLoadRect hl) e) Q) := by
  unfold slotHas slotAny
  iintro ⟨%f, %hf, H⟩ Hk
  iapply (wp_load_rect 𝒱₀ (c : Thread nD τ) none Set.univ (m := bM) (r := slotR k) (S := (slotM k).view.set) (slot_sub k)) $$ H; iintro H
  ihave Hk2 := Hk $$ [H]
  · iexists f; iexact H
  rw [← hf]; iexact Hk2

theorem wp_load_col (c : Dev nD) (p : Fin 4) (j : Fin 2) (f : Buf (Elt F) ((rowM p).view.loc (c : Thread nD τ))) (q : PosShare TreeShare)
    {hl : cM.view.LoadsAt (colR p j).toLoadRect} {α : Type} {Q : α → sProp 𝕄}
    {e : ((colR p j).shape.Idx → Elt F .f32) → Prog (TpuEff nD τ sig (Elt F) Λ₀ .tc) α} :
    rowPts c p q f ⊢ iprop((rowPts c p q f -∗ wpc c (e (cM.view.readAt (Elt F) (colR p j).toLoadRect f)) Q)
      -∗ wpc c (.op (.load cM (colR p j).toLoadRect hl) e) Q) := by
  iintro H Hk
  iapply (wp_load_rect 𝒱₀ (c : Thread nD τ) none Set.univ (m := cM) (r := colR p j) (S := (rowM p).view.set) (col_sub_row p j)) $$ H; iintro H
  iapply Hk; iexact H

theorem wp_store_col (c : Dev nD) (p : Fin 4) (j : Fin 2) (f : Buf (Elt F) ((rowM p).view.loc (c : Thread nD τ))) (w : Vec F S1x512x1 .f32)
    {hx : (cM.access (colR p j)).Stores Finset.univ} {hm : (Finset.univ : Finset (colR p j).shape.Idx) = Finset.univ ∨ ∀ a, (colR p j).stride a = 1}
    {α : Type} {Q : α → sProp 𝕄} {e : PUnit → Prog (TpuEff nD τ sig (Elt F) Λ₀ .tc) α} :
    rowPts c p fullShare f ⊢ iprop((rowPts c p fullShare ((cM.view.slice (colR p j)).write (Elt F) f w Finset.univ) -∗ wpc c (e ⟨⟩) Q)
      -∗ wpc c (.op (.store cM (colR p j) w Finset.univ hx hm) e) Q) := by
  iintro H Hk
  iapply (wp_store 𝒱₀ (c : Thread nD τ) none Set.univ (m := cM) (r := colR p j) (Mk := Finset.univ) (S := (rowM p).view.set)
    (by rw [View.setOn_univ]; exact col_sub_row p j)) $$ H; iintro H
  iapply Hk; iexact H

end Cert.Loss
-- ==== Proof.Body.lean ====
/-
# `Body`: the kernel's body, part by part

The generator prints the body in nine parts. Each has a lemma: what it takes, and what it goes on with.
-/
module

public import proofs.«01_k».proof.Proof.Ops

@[expose] public section

noncomputable section

namespace Cert.Loss

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS

variable {F : FTy → Type} [FloatOps F]

local notation "𝕄" => MT nD τ sig Unit (Elt F) ℕ UU ℕ

variable (m : (ℓ : Loc nD τ sig) → Buf (Elt F) ℓ) (ρ : Dev nD → PrngReg)

/-- Entering: the three signals, each with a landing row, and the wait for the three peers'. -/
theorem wp_part1 (K : Dev nD × CK → ℕ) (c : Dev nD) (Kt : _ → sProp 𝕄) :
    iprop(records m ρ K ∗ owesE c (O₀ c) ∗ (dutyTok ER (barCell (peer 0 c)) 0 0 ∗ dutyTok ER (barCell (peer 1 c)) 0 1 ∗ dutyTok ER (barCell (peer 2 c)) 0 2)
        ∗ ((∃ f, rowPts c 1 fullShare f) ∗ (∃ f, rowPts c 2 fullShare f) ∗ (∃ f, rowPts c 3 fullShare f))
        ∗ cred (tallyAt (barCell c) () 3) ∗ levAts L lv ∗ atPos ER (barCell c) 0 ∅ 0
        ∗ ((owesE c (OR c) ∗ semVal (barCell c) 0 ∗ barPay c 0 ∗ barPay c 1 ∗ barPay c 2) -∗ Kt ⟨c, xw c, yw c, Scalar.subi 1#32 (yw c), Scalar.subi 1#32 (xw c), Scalar.subi 1#32 (xw c), Scalar.subi 1#32 (yw c), bw c⟩))
      ⊢ wpc c (k0_part1 (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4 ) Kt := by
  rw [k0_part1_eq_skeleton]; unfold k0_part1_skel
  simp only [semSignalWord, semWaitWord, Prog.lift, Prog.bind_op, Prog.bind_ret, Prog.pure_eq_ret, wp_deviceId]
  simp only [dev1_eq c, dev2_eq c, dev3_eq c]
  iintro ⟨#HI, HO, ⟨Ht0, Ht1, Ht2⟩, ⟨Hr1, Hr2, Hr3⟩, Hc, #Hlev, Hat, Hk⟩
  unfold O₀
  iapply (wp_sig m ρ K c 0 (OB1 c) (by decide)) $$ [HO Ht0 Hr1]
  · isplitr; · iexact HI
    isplitl [HO]; · iexact HO
    isplitl [Ht0]; · iexact Ht0
    iexact Hr1
  iintro HO
  unfold OB1
  iapply (wp_sig m ρ K c 1 (OB2 c) (by decide)) $$ [HO Ht1 Hr2]
  · isplitr; · iexact HI
    isplitl [HO]; · iexact HO
    isplitl [Ht1]; · iexact Ht1
    iexact Hr2
  iintro HO
  unfold OB2
  iapply (wp_sig m ρ K c 2 (OR c) (by decide)) $$ [HO Ht2 Hr3]
  · isplitr; · iexact HI
    isplitl [HO]; · iexact HO
    isplitl [Ht2]; · iexact Ht2
    iexact Hr3
  iintro HO
  iapply (wp_bar_wait m ρ K c (by decide)) $$ [HO Hc Hat]
  · isplitr; · iexact HI
    isplitl [HO]; · iexact HO
    isplitl [Hc]; · iexact Hc
    isplitr; · iexact Hlev
    iexact Hat
  iintro H
  unfold wpc; rw [wp_ret]; imodintro
  iapply Hk; iexact H

/-- Piece 0 copied, its copy awaited, piece 1's started; the first piece's sums. -/
theorem wp_part2 (c : Dev nD) (Kt : _ → sProp 𝕄) :
    iprop(wPts m ρ c ∗ slotAny c 0 ∗ slotAny c 1 ∗ semVal (copyCell c 0) 0 ∗ semVal (copyCell c 1) 0 ∗ owesE c (OR c) ∗ levAts L lv ∗ xPts m ρ c ∗ lPts m ρ c
        ∗ ((flying m ρ c 1 ∗ slotAny c 0 ∗ semVal (copyCell c 0) 0 ∗ owesE c (OR c) ∗ xPts m ρ c ∗ lPts m ρ c) -∗ Kt ⟨k0_pay2, colv, k0_pay3 (xv m ρ c) (wv m ρ c 0), sv1 m ρ c, k0_pay5 (F := F) (xw c) (lv' m ρ c)⟩))
      ⊢ wpc c (k0_part2 (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4 c (xw c) (bw c)) Kt := by
  rw [k0_part2_eq_skeleton]; unfold k0_part2_skel
  simp only [semSignalWord, semWaitWord, Prog.lift, Prog.bind_op, Prog.bind_ret, Prog.pure_eq_ret, wp_deviceId]
  iintro ⟨HW, HS0, HS1, Hv0, Hv1, HO, #Hlev, Hx, Hl, Hk⟩
  iapply (wp_copy_start m ρ c 0) $$ [HW HS0 Hv0]
  · isplitl [HW]; · iexact HW
    isplitl [HS0] <;> iassumption
  iintro HF
  iapply (wp_copy_wait m ρ c 0) $$ [HF HO]
  · isplitl [HF]; · iexact HF
    isplitl [HO]; · iexact HO
    iexact Hlev
  iintro ⟨HW, HH, Hz, HO⟩
  iapply (wp_copy_start m ρ c 1) $$ [HW HS1 Hv1]
  · isplitl [HW]; · iexact HW
    isplitl [HS1] <;> iassumption
  iintro HF
  iapply (wp_load_x m ρ c) $$ Hx; iintro Hx
  iapply (wp_load_slot m ρ c 0) $$ HH; iintro HH
  iapply (wp_load_l m ρ c) $$ Hl; iintro Hl
  unfold wpc; rw [wp_ret]; imodintro
  iapply Hk
  isplitl [HF]; · iexact HF
  isplitl [HH]; · iexact HH
  isplitl [Hz]; · iexact Hz
  isplitl [HO]; · iexact HO
  isplitl [Hx]; · iexact Hx
  iexact Hl

/-- Piece 1's copy awaited, piece 2's started; piece 1's sums. -/
theorem wp_part3 (c : Dev nD) (v31 : FVec F S512x1 .f32) (v49 : FVec F S512x1024 .f32) (v53 : FVec F S512x1 .f32) (v58 : IVec S512x1 32) (Kt : _ → sProp 𝕄) :
    iprop(flying m ρ c 1 ∗ slotAny c 2 ∗ semVal (copyCell c 2) 0 ∗ owesE c (OR c) ∗ levAts L lv ∗ xPts m ρ c ∗ lPts m ρ c
        ∗ ((flying m ρ c 2 ∗ slotAny c 1 ∗ semVal (copyCell c 1) 0 ∗ owesE c (OR c) ∗ xPts m ρ c ∗ lPts m ρ c) -∗ Kt ⟨k0_pay6 (bw c) v31 colv v49 v58, k0_pay7 (xv m ρ c) (wv m ρ c 1), k0_pay8 v53 (xv m ρ c) (wv m ρ c 1), k0_pay9 (F := F) (lv' m ρ c)⟩))
      ⊢ wpc c (k0_part3 (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4 c (bw c) v31 colv v49 v53 v58) Kt := by
  rw [k0_part3_eq_skeleton]; unfold k0_part3_skel
  simp only [semSignalWord, semWaitWord, Prog.lift, Prog.bind_op, Prog.bind_ret, Prog.pure_eq_ret, wp_deviceId]
  iintro ⟨HF, HS2, Hv2, HO, #Hlev, Hx, Hl, Hk⟩
  iapply (wp_copy_wait m ρ c 1) $$ [HF HO]
  · isplitl [HF]; · iexact HF
    isplitl [HO]; · iexact HO
    iexact Hlev
  iintro ⟨HW, HH, Hz, HO⟩
  iapply (wp_copy_start m ρ c 2) $$ [HW HS2 Hv2]
  · isplitl [HW]; · iexact HW
    isplitl [HS2] <;> iassumption
  iintro HF
  iapply (wp_load_x m ρ c) $$ Hx; iintro Hx
  iapply (wp_load_slot m ρ c 1) $$ HH; iintro HH
  iapply (wp_load_l m ρ c) $$ Hl; iintro Hl
  unfold wpc; rw [wp_ret]; imodintro
  iapply Hk
  isplitl [HF]; · iexact HF
  isplitl [HH]; · iexact HH
  isplitl [Hz]; · iexact Hz
  isplitl [HO]; · iexact HO
  isplitl [Hx]; · iexact Hx
  iexact Hl

/-- Piece 2's copy awaited, piece 3's started; piece 2's sums. -/
theorem wp_part4 (c : Dev nD) (v69 : FVec F S512x1 .f32) (v86 : FVec F S512x1024 .f32) (v90 : FVec F S512x1 .f32) (v92 : IVec S512x1 32) (Kt : _ → sProp 𝕄) :
    iprop(flying m ρ c 2 ∗ slotAny c 3 ∗ semVal (copyCell c 3) 0 ∗ owesE c (OR c) ∗ levAts L lv ∗ xPts m ρ c
        ∗ ((flying m ρ c 3 ∗ slotAny c 2 ∗ semVal (copyCell c 2) 0 ∗ owesE c (OR c) ∗ xPts m ρ c) -∗ Kt ⟨k0_pay10 (xw c) (bw c) colv v69 v86 v92, k0_pay11 (xv m ρ c) (wv m ρ c 2), k0_pay12 v90 (xv m ρ c) (wv m ρ c 2)⟩))
      ⊢ wpc c (k0_part4 (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4 c (xw c) (bw c) colv v69 v86 v90 v92) Kt := by
  rw [k0_part4_eq_skeleton]; unfold k0_part4_skel
  simp only [semSignalWord, semWaitWord, Prog.lift, Prog.bind_op, Prog.bind_ret, Prog.pure_eq_ret, wp_deviceId]
  iintro ⟨HF, HS3, Hv3, HO, #Hlev, Hx, Hk⟩
  iapply (wp_copy_wait m ρ c 2) $$ [HF HO]
  · isplitl [HF]; · iexact HF
    isplitl [HO]; · iexact HO
    iexact Hlev
  iintro ⟨HW, HH, Hz, HO⟩
  iapply (wp_copy_start m ρ c 3) $$ [HW HS3 Hv3]
  · isplitl [HW]; · iexact HW
    isplitl [HS3] <;> iassumption
  iintro HF
  iapply (wp_load_x m ρ c) $$ Hx; iintro Hx
  iapply (wp_load_slot m ρ c 2) $$ HH; iintro HH
  unfold wpc; rw [wp_ret]; imodintro
  iapply Hk
  isplitl [HF]; · iexact HF
  isplitl [HH]; · iexact HH
  isplitl [Hz]; · iexact Hz
  isplitl [HO]; · iexact HO
  iexact Hx

/-- Piece 3's copy awaited; the last piece's sums. -/
theorem wp_part5 (c : Dev nD) (v106 : FVec F S512x1 .f32) (v123 : FVec F S512x1024 .f32) (v127 : FVec F S512x1 .f32) (Kt : _ → sProp 𝕄) :
    iprop(flying m ρ c 3 ∗ owesE c (OR c) ∗ levAts L lv ∗ xPts m ρ c ∗ lPts m ρ c
        ∗ ((wPts m ρ c ∗ slotAny c 3 ∗ semVal (copyCell c 3) 0 ∗ owesE c (OR c) ∗ xPts m ρ c ∗ lPts m ρ c) -∗ Kt ⟨k0_pay13 (xw c) (bw c) colv v106 v123 (lv' m ρ c), k0_pay14 (xv m ρ c) (wv m ρ c 3), k0_pay15 v127 (xv m ρ c) (wv m ρ c 3), k0_pay16 (F := F) (xw c) (lv' m ρ c), k0_pay17 (bw c)⟩))
      ⊢ wpc c (k0_part5 (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4 c (xw c) (bw c) colv v106 v123 v127) Kt := by
  rw [k0_part5_eq_skeleton]; unfold k0_part5_skel
  simp only [semSignalWord, semWaitWord, Prog.lift, Prog.bind_op, Prog.bind_ret, Prog.pure_eq_ret, wp_deviceId]
  iintro ⟨HF, HO, #Hlev, Hx, Hl, Hk⟩
  iapply (wp_load_l m ρ c) $$ Hl; iintro Hl
  iapply (wp_copy_wait m ρ c 3) $$ [HF HO]
  · isplitl [HF]; · iexact HF
    isplitl [HO]; · iexact HO
    iexact Hlev
  iintro ⟨HW, HH, Hz, HO⟩
  iapply (wp_load_x m ρ c) $$ Hx; iintro Hx
  iapply (wp_load_slot m ρ c 3) $$ HH; iintro HH
  iapply (wp_load_l m ρ c) $$ Hl; iintro Hl
  unfold wpc; rw [wp_ret]; imodintro
  iapply Hk
  isplitl [HW]; · iexact HW
  isplitl [HH]; · iexact HH
  isplitl [Hz]; · iexact Hz
  isplitl [HO]; · iexact HO
  isplitl [Hx]; · iexact Hx
  iexact Hl

/-- Row 0, holding the device's two sums, at its three shares. -/
theorem row_shares (c : Dev nD) (f) (h : RowIs (F := F) 0 f (sv m ρ c) (gv m ρ c)) :
    rowPts c 0 fullShare f ⊢ iprop((∃ f, ⌜RowIs (F := F) 0 f (sv m ρ c) (gv m ρ c)⌝ ∗ rowPts c 0 (qs 0) f)
      ∗ (∃ f, ⌜RowIs (F := F) 0 f (sv m ρ c) (gv m ρ c)⌝ ∗ rowPts c 0 (qs 1) f)
      ∗ (∃ f, ⌜RowIs (F := F) 0 f (sv m ρ c) (gv m ρ c)⌝ ∗ rowPts c 0 (qs 2) f)) := by
  iintro H
  ihave H2 := (pointsTo_share (PosShare.mem_left_op_right fullShare)).1 $$ H
  icases H2 with ⟨H0, H⟩
  ihave H2 := (pointsTo_share (PosShare.mem_left_op_right fullShare.right)).1 $$ H
  icases H2 with ⟨H1, H2⟩
  isplitl [H0]
  · iexists f; isplitr; · (ipureintro; exact h)
    iexact H0
  isplitl [H1]
  · iexists f; isplitr; · (ipureintro; exact h)
    iexact H1
  iexists f; isplitr; · (ipureintro; exact h)
  iexact H2

theorem row_shares_back (c : Dev nD) : iprop(sendPay (F := F) c 0 ∗ sendPay c 1 ∗ sendPay c 2) ⊢ iprop(∃ f, rowPts c 0 fullShare f) := by
  unfold sendPay
  iintro ⟨⟨%f0, H0⟩, ⟨%f1, H1⟩, ⟨%f2, H2⟩⟩
  ihave H := (pts_join (PosShare.mem_left_op_right fullShare.right) f1 f2) $$ [H1 H2]
  · isplitl [H1] <;> iassumption
  ihave H := (pts_join (PosShare.mem_left_op_right fullShare) f0 f1) $$ [H0 H]
  · isplitl [H0] <;> iassumption
  iexists f0; iexact H

/-- The two sums stored in row 0, and its copy to the first peer. -/
theorem wp_part6 (K : Dev nD × CK → ℕ) (c : Dev nD) (v6 v7 : BitVec 32) (v143 : FVec F S512x1 .f32) (v154 : FVec F S512x1024 .f32) (v163 v164 : IVec S512x1 32)
    (hg : k0_pay18 colv v143 v154 v163 v164 = gv m ρ c) (Kt : _ → sProp 𝕄) :
    iprop(records m ρ K ∗ (∃ f, rowPts c 0 fullShare f) ∗ barPay c 0 ∗ owesE c (OR c) ∗ dutyTok ER (sendCell c 0) 0 0 ∗ dutyTok ER (recvCell (peer 0 c) 0) 0 0
        ∗ (((∃ f, ⌜RowIs (F := F) 0 f (sv m ρ c) (gv m ρ c)⌝ ∗ rowPts c 0 (qs 1) f) ∗ (∃ f, ⌜RowIs (F := F) 0 f (sv m ρ c) (gv m ρ c)⌝ ∗ rowPts c 0 (qs 2) f)
        ∗ cred (tallyAt (sendCell c 0) () N) ∗ owesE c (OR1 c)) -∗ Kt ⟨gv m ρ c, Scalar.addi 0#32 (Scalar.muli v7 2#32), 1#32⟩))
      ⊢ wpc c (k0_part6 (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4 c (xw c) v6 v7 colv v143 v154 (sv m ρ c) v163 v164) Kt := by
  rw [k0_part6_eq_skeleton]; unfold k0_part6_skel
  simp only [semSignalWord, semWaitWord, Prog.lift, Prog.bind_op, Prog.bind_ret, Prog.pure_eq_ret, wp_deviceId]
  iintro ⟨#HI, ⟨%f, Hr⟩, Hb, HO, HtS, HtV, Hk⟩
  iapply (wp_load_col c 0 0 f fullShare) $$ Hr; iintro Hr
  iapply (wp_store_col c 0 0 f (colOf (sv m ρ c))) $$ Hr; iintro Hr
  iapply (wp_load_col c 0 1 _ fullShare) $$ Hr; iintro Hr
  have hg' : k0_pay20 colv v143 v154 v163 v164 = colOf (gv m ρ c) := by rw [← hg]; rfl
  rw [hg', hg]
  iapply (wp_store_col c 0 1 _ (colOf (gv m ρ c))) $$ Hr; iintro Hr
  ihave Hs := (row_shares m ρ c _ (row_stored f (sv m ρ c) (gv m ρ c))) $$ Hr
  icases Hs with ⟨H0, H1, H2⟩
  iapply (wp_row_send m ρ K c _ 0 (dev4_eq c) (OR c) (OR1 c) rfl) $$ [H0 Hb HO HtS HtV]
  · isplitr; · iexact HI
    isplitl [H0]; · iexact H0
    isplitl [Hb]; · iexact Hb
    isplitl [HO]; · iexact HO
    isplitl [HtS] <;> iassumption
  iintro ⟨Hc, HO⟩
  unfold wpc; rw [wp_ret]; imodintro
  iapply Hk
  isplitl [H1]; · iexact H1
  isplitl [H2]; · iexact H2
  isplitl [Hc] <;> iassumption

/-- The copies to the second and third peers, and the wait for the first copy's reading. -/
theorem wp_part7 (K : Dev nD × CK → ℕ) (c : Dev nD) (v5 v8 v9 v194 v : BitVec 32) (Kt : _ → sProp 𝕄) :
    iprop(records m ρ K ∗ (∃ f, ⌜RowIs (F := F) 0 f (sv m ρ c) (gv m ρ c)⌝ ∗ rowPts c 0 (qs 1) f) ∗ (∃ f, ⌜RowIs (F := F) 0 f (sv m ρ c) (gv m ρ c)⌝ ∗ rowPts c 0 (qs 2) f)
        ∗ barPay c 1 ∗ barPay c 2 ∗ owesE c (OR1 c)
        ∗ (dutyTok ER (sendCell c 1) 0 0 ∗ dutyTok ER (recvCell (peer 1 c) 1) 0 0) ∗ (dutyTok ER (sendCell c 2) 0 0 ∗ dutyTok ER (recvCell (peer 2 c) 2) 0 0)
        ∗ cred (tallyAt (sendCell c 0) () N) ∗ atPos ER (sendCell c 0) 0 ∅ 0
        ∗ ((cred (tallyAt (sendCell c 1) () N) ∗ cred (tallyAt (sendCell c 2) () N) ∗ owesE c 0 ∗ semVal (sendCell c 0) 0 ∗ sendPay c 0) -∗ Kt 2#32))
      ⊢ wpc c (k0_part7 (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4 c v5 v8 v9 v194 v) Kt := by
  rw [k0_part7_eq_skeleton]; unfold k0_part7_skel
  simp only [semSignalWord, semWaitWord, Prog.lift, Prog.bind_op, Prog.bind_ret, Prog.pure_eq_ret, wp_deviceId]
  iintro ⟨#HI, H1, H2, Hb1, Hb2, HO, ⟨HtS1, HtV1⟩, ⟨HtS2, HtV2⟩, Hc0, Ha0, Hk⟩
  iapply (wp_row_send m ρ K c _ 1 (dev5_eq c) (OR1 c) (OR2 c) rfl) $$ [H1 Hb1 HO HtS1 HtV1]
  · isplitr; · iexact HI
    isplitl [H1]; · iexact H1
    isplitl [Hb1]; · iexact Hb1
    isplitl [HO]; · iexact HO
    isplitl [HtS1] <;> iassumption
  iintro ⟨Hc1, HO⟩
  iapply (wp_row_send m ρ K c _ 2 (dev6_eq c) (OR2 c) 0 (zero_add _).symm) $$ [H2 Hb2 HO HtS2 HtV2]
  · isplitr; · iexact HI
    isplitl [H2]; · iexact H2
    isplitl [Hb2]; · iexact Hb2
    isplitl [HO]; · iexact HO
    isplitl [HtS2] <;> iassumption
  iintro ⟨Hc2, HO⟩
  iapply (wp_send_wait m ρ K c 0) $$ [Hc0 HO Ha0]
  · isplitr; · iexact HI
    isplitl [Hc0]; · iexact Hc0
    isplitl [HO] <;> iassumption
  iintro ⟨HO, Hz0, Hs0⟩
  unfold wpc; rw [wp_ret]; imodintro
  iapply Hk
  isplitl [Hc1]; · iexact Hc1
  isplitl [Hc2]; · iexact Hc2
  isplitl [HO]; · iexact HO
  isplitl [Hz0]; · iexact Hz0
  iexact Hs0

/-- Three more waits: the first row in, the second copy's reading, the second row in. -/
theorem wp_part8 (K : Dev nD × CK → ℕ) (c : Dev nD) (v2 v5 v6 v7 v : BitVec 32) (Kt : _ → sProp 𝕄) :
    iprop(records m ρ K ∗ owesE c 0 ∗ (cred (tallyAt (recvCell c 0) () N) ∗ atPos ER (recvCell c 0) 0 ∅ 0)
        ∗ (cred (tallyAt (sendCell c 1) () N) ∗ atPos ER (sendCell c 1) 0 ∅ 0) ∗ (cred (tallyAt (recvCell c 1) () N) ∗ atPos ER (recvCell c 1) 0 ∅ 0)
        ∗ ((owesE c 0 ∗ (semVal (recvCell c 0) 0 ∗ recvPay m ρ c 0) ∗ (semVal (sendCell c 1) 0 ∗ sendPay c 1) ∗ (semVal (recvCell c 1) 0 ∗ recvPay m ρ c 1)) -∗ Kt ⟨⟩))
      ⊢ wpc c (k0_part8 (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4 v2 v5 v6 v7 v) Kt := by
  rw [k0_part8_eq_skeleton]; unfold k0_part8_skel
  simp only [semSignalWord, semWaitWord, Prog.lift, Prog.bind_op, Prog.bind_ret, Prog.pure_eq_ret, wp_deviceId]
  iintro ⟨#HI, HO, ⟨Hd0, Hb0⟩, ⟨Hc1, Ha1⟩, ⟨Hd1, Hb1⟩, Hk⟩
  iapply (wp_recv_wait m ρ K c 0) $$ [Hd0 HO Hb0]
  · isplitr; · iexact HI
    isplitl [Hd0]; · iexact Hd0
    isplitl [HO] <;> iassumption
  iintro ⟨HO, Hy0, Hr0⟩
  iapply (wp_send_wait m ρ K c 1) $$ [Hc1 HO Ha1]
  · isplitr; · iexact HI
    isplitl [Hc1]; · iexact Hc1
    isplitl [HO] <;> iassumption
  iintro ⟨HO, Hz1, Hs1⟩
  iapply (wp_recv_wait m ρ K c 1) $$ [Hd1 HO Hb1]
  · isplitr; · iexact HI
    isplitl [Hd1]; · iexact Hd1
    isplitl [HO] <;> iassumption
  iintro ⟨HO, Hy1, Hr1⟩
  unfold wpc; rw [wp_ret]; imodintro
  iapply Hk
  isplitl [HO]; · iexact HO
  isplitl [Hy0 Hr0]; · isplitl [Hy0] <;> iassumption
  isplitl [Hz1 Hs1]; · isplitl [Hz1] <;> iassumption
  isplitl [Hy1] <;> iassumption

/-- The last two waits, and the first two peers' sums added. -/
theorem wp_part9 (K : Dev nD × CK → ℕ) (c : Dev nD) (v8 v9 : BitVec 32) (v158 v174 : FVec F S512x1 .f32) (Kt : _ → sProp 𝕄) :
    iprop(records m ρ K ∗ owesE c 0 ∗ (cred (tallyAt (sendCell c 2) () N) ∗ atPos ER (sendCell c 2) 0 ∅ 0) ∗ (cred (tallyAt (recvCell c 2) () N) ∗ atPos ER (recvCell c 2) 0 ∅ 0)
        ∗ recvPay m ρ c 0 ∗ recvPay m ρ c 1
        ∗ ((owesE c 0 ∗ (semVal (sendCell c 2) 0 ∗ sendPay c 2) ∗ (semVal (recvCell c 2) 0 ∗ recvPay m ρ c 2)
        ∗ (∃ f, rowPts c 1 fullShare f) ∗ (∃ f, rowPts c 2 fullShare f)) -∗ Kt ⟨k0_pay21 v158 (colOf (sv m ρ (peer 0 c))) (colOf (sv m ρ (peer 1 c))), k0_pay22 v174 (colOf (gv m ρ (peer 0 c))) (colOf (gv m ρ (peer 1 c)))⟩))
      ⊢ wpc c (k0_part9 (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4 v8 v9 v158 v174) Kt := by
  rw [k0_part9_eq_skeleton]; unfold k0_part9_skel
  simp only [semSignalWord, semWaitWord, Prog.lift, Prog.bind_op, Prog.bind_ret, Prog.pure_eq_ret, wp_deviceId]
  iintro ⟨#HI, HO, ⟨Hc2, Ha2⟩, ⟨Hd2, Hb2⟩, Hr0, Hr1, Hk⟩
  iapply (wp_send_wait m ρ K c 2) $$ [Hc2 HO Ha2]
  · isplitr; · iexact HI
    isplitl [Hc2]; · iexact Hc2
    isplitl [HO] <;> iassumption
  iintro ⟨HO, Hz2, Hs2⟩
  iapply (wp_recv_wait m ρ K c 2) $$ [Hd2 HO Hb2]
  · isplitr; · iexact HI
    isplitl [Hd2]; · iexact Hd2
    isplitl [HO] <;> iassumption
  iintro ⟨HO, Hy2, Hr2⟩
  ihave H1 := (Entails.of_eq (show recvPay m ρ c 0 = iprop(∃ f, ⌜RowIs (F := F) 1 f (sv m ρ (peer 0 c)) (gv m ρ (peer 0 c))⌝ ∗ rowPts c 1 fullShare f) from rfl)) $$ Hr0
  ihave H2 := (Entails.of_eq (show recvPay m ρ c 1 = iprop(∃ f, ⌜RowIs (F := F) 2 f (sv m ρ (peer 1 c)) (gv m ρ (peer 1 c))⌝ ∗ rowPts c 2 fullShare f) from rfl)) $$ Hr1
  icases H1 with ⟨%f1, %h1, H1⟩
  icases H2 with ⟨%f2, %h2, H2⟩
  iapply (wp_load_col c 1 0 f1 fullShare) $$ H1; iintro H1
  iapply (wp_load_col c 1 1 f1 fullShare) $$ H1; iintro H1
  iapply (wp_load_col c 2 0 f2 fullShare) $$ H2; iintro H2
  iapply (wp_load_col c 2 1 f2 fullShare) $$ H2; iintro H2
  rw [h1.1, h1.2, h2.1, h2.2]
  unfold wpc; rw [wp_ret]; imodintro
  iapply Hk
  isplitl [HO]; · iexact HO
  isplitl [Hz2 Hs2]; · isplitl [Hz2] <;> iassumption
  isplitl [Hy2 Hr2]; · isplitl [Hy2] <;> iassumption
  isplitl [H1]; · iexists f1; iexact H1
  iexists f2; iexact H2

end Cert.Loss
-- ==== Proof.Whole.lean ====
/-
# `Whole`: the body as a whole, from what the launch hands a core to what it hands back
-/
module

public import proofs.«01_k».proof.Proof.Body
public import proofs.«01_k».proof.Proof.Gen.KernelIdeal.Points

@[expose] public section

noncomputable section

namespace Cert.Loss

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped Idealize.SL.RA.PCS

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The tokens of the duties device `c` pays. -/
def payToks (c : Dev nD) : sProp 𝕄 :=
  iprop((dutyTok ER (barCell (peer 0 c)) 0 0 ∗ dutyTok ER (barCell (peer 1 c)) 0 1 ∗ dutyTok ER (barCell (peer 2 c)) 0 2)
    ∗ (dutyTok ER (recvCell (peer 0 c) 0) 0 0 ∗ dutyTok ER (recvCell (peer 1 c) 1) 0 0 ∗ dutyTok ER (recvCell (peer 2 c) 2) 0 0)
    ∗ (dutyTok ER (sendCell c 0) 0 0 ∗ dutyTok ER (sendCell c 1) 0 0 ∗ dutyTok ER (sendCell c 2) 0 0))
/-- Its positions at round 0 of its own cells. -/
def positions (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))
/-- Its four copy semaphores at zero. -/
def copySems (c : Dev nD) : sProp 𝕄 :=
  iprop(semVal (copyCell c 0) 0 ∗ semVal (copyCell c 1) 0 ∗ semVal (copyCell c 2) 0 ∗ semVal (copyCell c 3) 0)
def recvSems (c : Dev nD) : sProp 𝕄 := iprop(semVal (recvCell c 0) 0 ∗ semVal (recvCell c 1) 0 ∗ semVal (recvCell c 2) 0)
def sendSems (c : Dev nD) : sProp 𝕄 := iprop(semVal (sendCell c 0) 0 ∗ semVal (sendCell c 1) 0 ∗ semVal (sendCell c 2) 0)

def ghost (K : Dev nD × CK → ℕ) (c : Dev nD) : sProp 𝕄 := iprop(records m ρ K ∗ (positions c ∗ payToks c) ∗ copySems c)

def launchCreds (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from, the two scratch buffers apart. -/
def start (c : Dev nD) : sProp 𝕄 := iprop((∃ K, ghost m ρ K c) ∗ launchCreds c ∗ levAts L lv ∗ wPts m ρ c)

def scr0 (c : Dev nD) : sProp 𝕄 := iprop(∃ f : Buf (Elt F) ((c : Thread nD τ).loc cc0_scratch0), ((c : Thread nD τ).loc cc0_scratch0) ↦{fullShare} f)
def scr1 (c : Dev nD) : sProp 𝕄 := iprop(∃ f : Buf (Elt F) ((c : Thread nD τ).loc cc0_scratch1), ((c : Thread nD τ).loc cc0_scratch1) ↦{fullShare} f)

def Φ₀ (c : Dev nD) : sProp 𝕄 := iprop(start m ρ c ∗ scr0 c ∗ scr1 c)
/-- After the body: `W` unchanged, the scratch buffers, every semaphore at zero. -/
def Φ₁ (c : Dev nD) : sProp 𝕄 := iprop(wPts m ρ c ∗ scr0 c ∗ scr1 c ∗ copySems c ∗ sendSems c ∗ recvSems c ∗ semVal (barCell c) 0)

/-! ## The scratch buffers and their slots and rows -/

theorem scr0_split (c : Dev nD) : scr0 c ⊢ (iprop(slotAny c 0 ∗ slotAny c 1 ∗ slotAny c 2 ∗ slotAny c 3) : sProp 𝕄) := by
  unfold scr0 slotAny
  iintro ⟨%f, H⟩
  ihave H2 := (Entails.of_eq ((Ring.pointsTo_blocks (Ix := Unit) (Name := ℕ) (U := UU) (Lvl := ℕ) (q := fullShare) (ℓ := (c : Thread nD τ).loc cc0_scratch0)
    (fun k : Fin 4 => (slotM k).view.set) slots_disjoint slots_cover f).trans
    (bigSep_four _))) $$ H
  icases H2 with ⟨H0, H1, H2, H3⟩
  isplitl [H0]; · iexists f; iexact H0
  isplitl [H1]; · iexists f; iexact H1
  isplitl [H2]; · iexists f; iexact H2
  iexists f; iexact H3
theorem scr0_join (c : Dev nD) : (iprop(slotAny c 0 ∗ slotAny c 1 ∗ slotAny c 2 ∗ slotAny c 3) : sProp 𝕄) ⊢ scr0 c := by
  unfold scr0 slotAny
  iintro ⟨⟨%f0, H0⟩, ⟨%f1, H1⟩, ⟨%f2, H2⟩, ⟨%f3, H3⟩⟩
  iapply (Ring.pointsTo_blocks_join_exists (Ix := Unit) (Name := ℕ) (U := UU) (Lvl := ℕ) (q := fullShare) (ℓ := (c : Thread nD τ).loc cc0_scratch0)
    (fun k : Fin 4 => (slotM k).view.set) slots_disjoint slots_cover f0)
  iapply (Entails.of_eq (bigSep_four _).symm)
  isplitl [H0]; · iexists f0; iexact H0
  isplitl [H1]; · iexists f1; iexact H1
  isplitl [H2]; · iexists f2; iexact H2
  iexists f3; iexact H3
theorem scr1_split (c : Dev nD) :
    scr1 c ⊢ (iprop((∃ f, rowPts c 0 fullShare f) ∗ (∃ f, rowPts c 1 fullShare f) ∗ (∃ f, rowPts c 2 fullShare f) ∗ (∃ f, rowPts c 3 fullShare f)) : sProp 𝕄) := by
  unfold scr1
  iintro ⟨%f, H⟩
  ihave H2 := (Entails.of_eq ((Ring.pointsTo_blocks (Ix := Unit) (Name := ℕ) (U := UU) (Lvl := ℕ) (q := fullShare) (ℓ := (c : Thread nD τ).loc cc0_scratch1)
    (fun p : Fin 4 => (rowM p).view.set) rows_disjoint rows_cover f).trans
    (bigSep_four _))) $$ H
  icases H2 with ⟨H0, H1, H2, H3⟩
  isplitl [H0]; · iexists f; iexact H0
  isplitl [H1]; · iexists f; iexact H1
  isplitl [H2]; · iexists f; iexact H2
  iexists f; iexact H3
theorem scr1_join (c : Dev nD) :
    (iprop((∃ f, rowPts c 0 fullShare f) ∗ (∃ f, rowPts c 1 fullShare f) ∗ (∃ f, rowPts c 2 fullShare f) ∗ (∃ f, rowPts c 3 fullShare f)) : sProp 𝕄) ⊢ scr1 c := by
  unfold scr1
  iintro ⟨⟨%f0, H0⟩, ⟨%f1, H1⟩, ⟨%f2, H2⟩, ⟨%f3, H3⟩⟩
  iapply (Ring.pointsTo_blocks_join_exists (Ix := Unit) (Name := ℕ) (U := UU) (Lvl := ℕ) (q := fullShare) (ℓ := (c : Thread nD τ).loc cc0_scratch1)
    (fun p : Fin 4 => (rowM p).view.set) rows_disjoint rows_cover f0)
  iapply (Entails.of_eq (bigSep_four _).symm)
  isplitl [H0]; · iexists f0; iexact H0
  isplitl [H1]; · iexists f1; iexact H1
  isplitl [H2]; · iexists f2; iexact H2
  iexists f3; iexact H3

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => lv' m ρ c
    | ⟨2, _⟩ => outv m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
abbrev oAny (c : Dev nD) : sProp 𝕄 := iprop(∃ f, oM.view.loc (c : Thread nD τ) ↦{fullShare} f)

/-! ## The body -/

/-- The result added up and stored. -/
theorem wp_last (c : Dev nD) (a b : FVec F S512x1 .f32) {h1 h2 h3 h4 h5} (Kt : PUnit → sProp 𝕄) :
    iprop(recvPay m ρ c 2 ∗ oAny c
        ∗ (((∃ f, rowPts c 3 fullShare f) ∗ (oM.view.loc (c : Thread nD τ) ↦{fullShare} k0_pay1 a b (colOf (sv m ρ (peer 2 c))) (colOf (gv m ρ (peer 2 c))))) -∗ Kt ⟨⟩))
      ⊢ wpc c (.op (.load cM (colR 3 0).toLoadRect h1) fun v277 => .op (.load cM (colR 3 1).toLoadRect h2) fun v280 =>
          .op (.load oM vR.toLoadRect h3) fun _ => .op (.store oM vR (k0_pay1 a b v277 v280) Finset.univ h4 h5) fun _ => .ret ⟨⟩) Kt := by
  iintro ⟨Hr, ⟨%fo, Ho⟩, Hk⟩
  ihave H1 := (Entails.of_eq (show recvPay m ρ c 2 = iprop(∃ f, ⌜RowIs (F := F) 3 f (sv m ρ (peer 2 c)) (gv m ρ (peer 2 c))⌝ ∗ rowPts c 3 fullShare f) from rfl)) $$ Hr
  icases H1 with ⟨%f1, %h, H1⟩
  iapply (wp_load_col c 3 0 f1 fullShare) $$ H1; iintro H1
  iapply (wp_load_col c 3 1 f1 fullShare) $$ H1; iintro H1
  rw [h.1, h.2]
  iapply (wp_load 𝒱₀ (c : Thread nD τ) none Set.univ (m := oM) (Finset.subset_univ _)) $$ Ho; iintro Ho
  iapply (wp_store 𝒱₀ (c : Thread nD τ) none Set.univ (m := oM) (r := vR) (Mk := Finset.univ) (Finset.subset_univ _)) $$ Ho; iintro Ho
  rw [write_out, wp_ret]; imodintro
  iapply Hk
  isplitl [H1]; · iexists f1; iexact H1
  iexact Ho

/-- The whole body on what it holds, opened up. -/
theorem sound_core (K : Dev nD × CK → ℕ) (c : Dev nD) (Kt : PUnit → sProp 𝕄) :
    iprop(ghost m ρ K c ∗ launchCreds c ∗ levAts L lv ∗ wPts m ρ c ∗ scr0 c ∗ scr1 c ∗ owesE c (O₀ c) ∗ xPts m ρ c ∗ lPts m ρ c ∗ oAny c
        ∗ ((Φ₁ m ρ c ∗ owesE c 0 ∗ xPts m ρ c ∗ lPts m ρ c ∗ (oM.view.loc (c : Thread nD τ) ↦{fullShare} outv m ρ c)) -∗ Kt ⟨⟩))
      ⊢ wpc c (cc0_body (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4) Kt := by
  rw [cc0_body_eq_skeleton]; unfold cc0_body_skel
  unfold ghost positions payToks copySems launchCreds
  iintro ⟨⟨#HI, ⟨⟨Ha, ⟨HaS0, HaS1, HaS2⟩, ⟨HaV0, HaV1, HaV2⟩⟩, HtB, ⟨HtV0, HtV1, HtV2⟩, ⟨HtS0, HtS1, HtS2⟩⟩, ⟨Hv0, Hv1, Hv2, Hv3⟩⟩,
    ⟨HcB, HcV0, HcV1, HcV2⟩, #Hlev, HW, Hscr0, Hscr1, HO, Hx, Hl, Hout, Hk⟩
  ihave Hs := (scr0_split (F := F) c) $$ Hscr0
  icases Hs with ⟨HS0, HS1, HS2, HS3⟩
  ihave Hs := (scr1_split (F := F) c) $$ Hscr1
  icases Hs with ⟨HR0, HR⟩
  unfold wpc
  rw [wp_bind]
  iapply (wp_part1 m ρ K c)
  isplitr; · iexact HI
  isplitl [HO]; · iexact HO
  isplitl [HtB]; · iexact HtB
  isplitl [HR]; · iexact HR
  isplitl [HcB]; · iexact HcB
  isplitr; · iexact Hlev
  isplitl [Ha]; · iexact Ha
  iintro ⟨HO, HzB, Hb0, Hb1, Hb2⟩
  try dsimp only
  rw [wp_bind]
  iapply (wp_part2 m ρ c)
  isplitl [HW]; · iexact HW
  isplitl [HS0]; · iexact HS0
  isplitl [HS1]; · iexact HS1
  isplitl [Hv0]; · iexact Hv0
  isplitl [Hv1]; · iexact Hv1
  isplitl [HO]; · iexact HO
  isplitr; · iexact Hlev
  isplitl [Hx]; · iexact Hx
  isplitl [Hl]; · iexact Hl
  iintro ⟨HF, HS0, Hv0, HO, Hx, Hl⟩
  try dsimp only
  rw [wp_bind]
  iapply (wp_part3 m ρ c)
  isplitl [HF]; · iexact HF
  isplitl [HS2]; · iexact HS2
  isplitl [Hv2]; · iexact Hv2
  isplitl [HO]; · iexact HO
  isplitr; · iexact Hlev
  isplitl [Hx]; · iexact Hx
  isplitl [Hl]; · iexact Hl
  iintro ⟨HF, HS1, Hv1, HO, Hx, Hl⟩
  try dsimp only
  rw [wp_bind]
  iapply (wp_part4 m ρ c)
  isplitl [HF]; · iexact HF
  isplitl [HS3]; · iexact HS3
  isplitl [Hv3]; · iexact Hv3
  isplitl [HO]; · iexact HO
  isplitr; · iexact Hlev
  isplitl [Hx]; · iexact Hx
  iintro ⟨HF, HS2, Hv2, HO, Hx⟩
  try dsimp only
  rw [wp_bind]
  iapply (wp_part5 m ρ c)
  isplitl [HF]; · iexact HF
  isplitl [HO]; · iexact HO
  isplitr; · iexact Hlev
  isplitl [Hx]; · iexact Hx
  isplitl [Hl]; · iexact Hl
  iintro ⟨HW, HS3, Hv3, HO, Hx, Hl⟩
  try dsimp only
  rw [wp_bind]
  iapply (wp_part6 m ρ K c _ _ _ _ _ _ rfl)
  isplitr; · iexact HI
  isplitl [HR0]; · iexact HR0
  isplitl [Hb0]; · iexact Hb0
  isplitl [HO]; · iexact HO
  isplitl [HtS0]; · iexact HtS0
  isplitl [HtV0]; · iexact HtV0
  iintro ⟨H1, H2, HcS0, HO⟩
  try dsimp only
  rw [wp_bind]
  iapply (wp_part7 m ρ K c)
  isplitr; · iexact HI
  isplitl [H1]; · iexact H1
  isplitl [H2]; · iexact H2
  isplitl [Hb1]; · iexact Hb1
  isplitl [Hb2]; · iexact Hb2
  isplitl [HO]; · iexact HO
  isplitl [HtS1 HtV1]; · isplitl [HtS1] <;> iassumption
  isplitl [HtS2 HtV2]; · isplitl [HtS2] <;> iassumption
  isplitl [HcS0]; · iexact HcS0
  isplitl [HaS0]; · iexact HaS0
  iintro ⟨HcS1, HcS2, HO, HzS0, Hs0⟩
  try dsimp only
  rw [wp_bind]
  iapply (wp_part8 m ρ K c)
  isplitr; · iexact HI
  isplitl [HO]; · iexact HO
  isplitl [HcV0 HaV0]; · isplitl [HcV0] <;> iassumption
  isplitl [HcS1 HaS1]; · isplitl [HcS1] <;> iassumption
  isplitl [HcV1 HaV1]; · isplitl [HcV1] <;> iassumption
  iintro ⟨HO, ⟨HzV0, Hr0⟩, ⟨HzS1, Hs1⟩, ⟨HzV1, Hr1⟩⟩
  try dsimp only
  rw [wp_bind]
  iapply (wp_part9 m ρ K c)
  isplitr; · iexact HI
  isplitl [HO]; · iexact HO
  isplitl [HcS2 HaS2]; · isplitl [HcS2] <;> iassumption
  isplitl [HcV2 HaV2]; · isplitl [HcV2] <;> iassumption
  isplitl [Hr0]; · iexact Hr0
  isplitl [Hr1]; · iexact Hr1
  iintro ⟨HO, ⟨HzS2, Hs2⟩, ⟨HzV2, Hr2⟩, HR1, HR2⟩
  try dsimp only
  simp only [Prog.lift, Prog.bind_op, Prog.bind_ret, Prog.pure_eq_ret]
  iapply (wp_last m ρ c)
  isplitl [Hr2]; · iexact Hr2
  isplitl [Hout]; · iexact Hout
  iintro ⟨HR3, Hout⟩
  iapply Hk
  unfold Φ₁ copySems sendSems recvSems
  isplitr [HO Hx Hl Hout]
  · isplitl [HW]; · iexact HW
    isplitl [HS0 HS1 HS2 HS3]
    · iapply (scr0_join (F := F) c)
      isplitl [HS0]; · iexact HS0
      isplitl [HS1]; · iexact HS1
      isplitl [HS2] <;> iassumption
    isplitl [Hs0 Hs1 Hs2 HR1 HR2 HR3]
    · iapply (scr1_join (F := F) c)
      isplitl [Hs0 Hs1 Hs2]
      · iapply (row_shares_back (F := F) c)
        isplitl [Hs0]; · iexact Hs0
        isplitl [Hs1] <;> iassumption
      isplitl [HR1]; · iexact HR1
      isplitl [HR2] <;> iassumption
    isplitl [Hv0 Hv1 Hv2 Hv3]
    · isplitl [Hv0]; · iexact Hv0
      isplitl [Hv1]; · iexact Hv1
      isplitl [Hv2] <;> iassumption
    isplitl [HzS0 HzS1 HzS2]
    · isplitl [HzS0]; · iexact HzS0
      isplitl [HzS1] <;> iassumption
    isplitl [HzV0 HzV1 HzV2]
    · isplitl [HzV0]; · iexact HzV0
      isplitl [HzV1] <;> iassumption
    iexact HzB
  isplitl [HO]; · iexact HO
  isplitl [Hx]; · iexact Hx
  isplitl [Hl]; · iexact Hl
  iexact Hout

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m ρ c ∗ (dats m ρ 0 c).owesAt () t0_0.succ ∗ stg c cc0_stg0_0 (xv m ρ c) ∗ stg c cc0_stg1_0 (lv' m ρ c) ∗ stg c cc0_stg2_0 (outv m ρ c))

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body (F := F) xM (Memref.isWhole_whole _) wM (Memref.isWhole_whole _) lM (Memref.isWhole_whole _) oM (Memref.isWhole_whole _)
          bM (Memref.isWhole_whole _) cM (Memref.isWhole_whole _) cc0_scratch2 cc0_scratch3 cc0_scratch4) (fun _ => bodyPost m ρ c)
  unfold bodyPre Φ₀ start
  iintro ⟨⟨⟨⟨%K, Hg⟩, Hcr, Hlev, HW⟩, Hs0, Hs1⟩, Ho, ⟨%d0, %g0, %hg0, Hx⟩, ⟨%d1, %g1, %hg1, Hl⟩, ⟨%d2, %g2, %hg2, Hout⟩⟩
  have hx : g0 = xv m ρ c := by rw [hg0]; unfold Dat.before; rw [if_pos (fetch0_0 t0_0)]; rfl
  have hl : g1 = lv' m ρ c := by rw [hg1]; unfold Dat.before; rw [if_pos (fetch0_1 t0_0)]; rfl
  subst hx hl
  unfold Dat.owesAt Pipeline.owesWithin
  icases Ho with ⟨%W, %hW, HO⟩
  rw [show (dats m ρ 0 c).owed t0_0.castSucc = O₀ c from rfl]
  iapply (sound_core m ρ K c fun _ => bodyPost m ρ c)
  isplitl [Hg]; · iexact Hg
  isplitl [Hcr]; · iexact Hcr
  isplitl [Hlev]; · iexact Hlev
  isplitl [HW]; · iexact HW
  isplitl [Hs0]; · iexact Hs0
  isplitl [Hs1]; · iexact Hs1
  isplitl [HO]; · unfold owesE; iexists W; iexact HO
  isplitl [Hx]; · iexact Hx
  isplitl [Hl]; · iexact Hl
  isplitl [Hout]; · iexists g2; iexact Hout
  unfold bodyPost owesE Dat.owesAt Pipeline.owesWithin
  rw [show (dats m ρ 0 c).owed t0_0.succ = 0 from rfl]
  iintro ⟨HΦ, ⟨%W', HO⟩, Hx, Hl, Hout⟩
  isplitl [HΦ]; · iexact HΦ
  isplitl [HO]
  · iexists W'; isplitr; · (ipureintro; exact fun _ _ => Or.inl trivial)
    iexact HO
  isplitl [Hx]
  · iexists _; isplitr; · (ipureintro; rfl)
    iexact Hx
  isplitl [Hl]
  · iexists _; isplitr; · (ipureintro; rfl)
    iexact Hl
  iexists _; isplitr; · (ipureintro; rfl)
  iexact Hout

end Cert.Loss
-- ==== Proof.Launch.lean ====
/-
# `Launch`: the launch of the four devices, and the run of the whole program
-/
module

public import proofs.«01_k».proof.Proof.Whole
public import Idealize.ShloMosaic.Lib.Pipeline.CollectiveSegs

@[expose] public section

noncomputable section

namespace Cert.Loss

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped Idealize.SL.RA.PCS

variable {F : FTy → Type} [FloatOps F]

local notation "𝕄" => MT nD τ sig Unit (Elt F) ℕ UU ℕ

variable (m : (ℓ : Loc nD τ sig) → Buf (Elt F) ℓ) (ρ : Dev nD → PrngReg)

/-! ## The launch element and what it deals -/

/-- The kernel's own ten transfer semaphores. -/
abbrev osem : Fin 10 → SemLoc sig := fun
  | 0 => .dma (copyS 0) | 1 => .dma (copyS 1) | 2 => .dma (copyS 2) | 3 => .dma (copyS 3)
  | 4 => .dma (sendS 0) | 5 => .dma (sendS 1) | 6 => .dma (sendS 2)
  | 7 => .dma (recvS 0) | 8 => .dma (recvS 1) | 9 => .dma (recvS 2)
theorem ownSemFacts : Pipeline.OwnSemFacts cfg0.spec osem := by decide

theorem share_eq (c : Dev nD) (w : Fin cfg0.W) : (dats m ρ 0 c).share w = fullShare := by unfold Dat.share; split <;> rfl

theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj k k' (congrArg Prod.snd h)
  rw [h1, h2]
def lossCells : Finset (GSem nD τ sig) := Finset.univ.map ⟨kcell, kcell_inj⟩

/-- The duty tokens minted, by device, kind of cell and duty or peer. -/
abbrev tokKind : Fin 3 × Fin 3 → CK × Fin 3
  | (0, p) => (none, p)
  | (1, p) => (some (false, p), 0)
  | (2, p) => (some (true, p), 0)
theorem tokKind_inj : ∀ j j', tokKind j = tokKind j' → j = j' := by decide
abbrev tokOf (cj : Dev nD × (Fin 3 × Fin 3)) : GSem nD τ sig × ℕ × Fin 3 := (kcell (cj.1, (tokKind cj.2).1), 0, (tokKind cj.2).2)
theorem tokOf_inj : Function.Injective tokOf := by
  rintro ⟨c, j⟩ ⟨c', j'⟩ h
  have h1 := kcell_inj (congrArg Prod.fst h)
  have h2 : tokKind j = tokKind j' := Prod.ext (congrArg Prod.snd h1) (congrArg (fun x : GSem nD τ sig × ℕ × Fin 3 => x.2.2) h)
  rw [tokKind_inj j j' h2, show c = c' from congrArg Prod.fst h1]
def lossToks : Finset (GSem nD τ sig × ℕ × Fin 3) := Finset.univ.map ⟨tokOf, tokOf_inj⟩

def u₀ : UU :=
  (initOf (Pipeline.cells cfgs cellOf_inj) (Pipeline.launchToks cfgs cellOf_inj), (initOf lossCells lossToks, 1))

/-- The duty tokens of device `c`'s own cells. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))

def G (c : Dev nD) : sProp 𝕄 :=
  iprop((bigSep Finset.univ fun k : CK => roundState ER (lossRd m ρ) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, ghost m ρ K c)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

theorem fund_loss : BI.own (ER (initOf lossCells lossToks)) ⊢ (|==> bigSep Finset.univ (G m ρ) : sProp 𝕄) := by
  have hX (Φ : GSem nD τ sig → sProp 𝕄) : bigSep lossCells Φ = bigSep Finset.univ fun c : Dev nD => bigSep Finset.univ fun k : CK => Φ (kcell (c, k)) := by
    unfold lossCells; rw [bigSep_map, bigSep_univ_prod]; rfl
  have hT : bigSep lossToks (fun x => (dutyTok ER x.1 x.2.1 x.2.2 : sProp 𝕄)) = bigSep Finset.univ fun c : Dev nD => toks c := by
    unfold lossToks; rw [bigSep_map, bigSep_univ_prod]
    refine bigSep_congr fun c _ => ?_
    unfold toks; rw [bigSep_univ_prod, bigSep_three, bigSep_three, bigSep_three, bigSep_three]; rfl
  iintro HX
  imod (Rounds.fund ER (lossRd m ρ) lossCells lossToks) $$ HX with ⟨Hst, Hr, Hat, Htok⟩
  imodintro
  ihave Hst' := (Entails.of_eq (hX fun g => roundState ER (lossRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (copyCell c 0) 0 ∗ semVal (copyCell c 1) 0 ∗ semVal (copyCell c 2) 0 ∗ semVal (copyCell c 3) 0
      ∗ semVal (sendCell c 0) 0 ∗ semVal (sendCell c 1) 0 ∗ semVal (sendCell c 2) 0
      ∗ semVal (recvCell c 0) 0 ∗ semVal (recvCell c 1) 0 ∗ semVal (recvCell c 2) 0) := by
  rw [Pipeline.ownSems0_eq_of_list c osem [0, 1, 2, 3, 4, 5, 6, 7, 8, 9] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ copySems c) : sProp 𝕄) := by
  rw [ownSems0_eq, unscopedSems0_eq, bigSep_CK]; unfold copySems
  iintro ⟨⟨C0, C1, C2, C3, S0, S1, S2, V⟩, HB⟩
  isplitl [HB S0 S1 S2 V]
  · isplitl [HB]; · iexact HB
    isplitl [S0]; · iexact S0
    isplitl [S1]; · iexact S1
    isplitl [S2]; · iexact S2
    iexact V
  isplitl [C0]; · iexact C0
  isplitl [C1]; · iexact C1
  isplitl [C2] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (lossRd m ρ) κ (kcell (c, k))))
          ∗ (bigSep Finset.univ fun k => iprop(atPos ER (kcell (c, k)) 0 ∅ 0 ∗ reached ER (kcell (c, k)) 0)) ∗ toks c ∗ copySems c) := by
  unfold G
  iintro ⟨Hos, Hus, Hst, Hat, Htok⟩
  ihave Hv := (sems0_eq (F := F) c) $$ [Hos Hus]
  · isplitl [Hos] <;> iassumption
  icases Hv with ⟨Hv, Hcp⟩
  imod (show iprop((bigSep Finset.univ fun k : CK => semVal (kcell (c, k)) 0) ∗ bigSep Finset.univ fun k : CK => roundState ER (lossRd m ρ) (kcell (c, k)) 0)
      ⊢ (|={Set.univ}=> bigSep Finset.univ fun k => iprop(∃ κ : ℕ, cellInv ER (lossRd m ρ) κ (kcell (c, k))) : sProp 𝕄) from by
        rw [← bigSep_sep']
        exact (bigSep_mono fun k _ => (Rounds.body_intro ER (lossRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem ghost_intro (K : Dev nD × CK → ℕ) (c : Dev nD) : iprop(records m ρ K ∗ (positions c ∗ payToks c) ∗ copySems c) ⊢ G' m ρ c := by
  unfold G' ghost
  iintro H
  iexists K; iexact H

/-- The tokens dealt out: a barrier's duty `p` and receive cell `p`'s duty to peer `p`. -/
theorem toks_around : (bigSep Finset.univ fun c : Dev nD => (toks c : sProp 𝕄)) ⊢ bigSep Finset.univ fun c : Dev nD => payToks c := by
  unfold toks payToks
  simp only [bigSep_sep']
  rw [bigSep_univ_equiv (flip 0) (fun c : Dev nD => (dutyTok ER (barCell c) 0 0 : sProp 𝕄)),
    bigSep_univ_equiv (flip 1) (fun c : Dev nD => (dutyTok ER (barCell c) 0 1 : sProp 𝕄)),
    bigSep_univ_equiv (flip 2) (fun c : Dev nD => (dutyTok ER (barCell c) 0 2 : sProp 𝕄)),
    bigSep_univ_equiv (flip 0) (fun c : Dev nD => (dutyTok ER (recvCell c 0) 0 0 : sProp 𝕄)),
    bigSep_univ_equiv (flip 1) (fun c : Dev nD => (dutyTok ER (recvCell c 1) 0 0 : sProp 𝕄)),
    bigSep_univ_equiv (flip 2) (fun c : Dev nD => (dutyTok ER (recvCell c 2) 0 0 : sProp 𝕄))]
  iintro ⟨HB, HS, HV⟩
  isplitl [HB]; · iexact HB
  isplitl [HV]; · iexact HV
  iexact HS

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem positions_intro (c : Dev nD) : (bigSep Finset.univ fun k : CK => (atPos ER (kcell (c, k)) 0 ∅ 0 : sProp 𝕄)) ⊢ positions c := by
  rw [bigSep_CK]; unfold positions
  iintro ⟨B, S0, S1, S2, V⟩
  isplitl [B]; · iexact B
  isplitl [S0 S1 S2]
  · isplitl [S0]; · iexact S0
    isplitl [S1] <;> iassumption
  iexact V

theorem regroup :
    (bigSep Finset.univ fun c : Dev nD => iprop((bigSep Finset.univ fun k => iprop(∃ κ : ℕ, cellInv ER (lossRd m ρ) κ (kcell (c, k))))
          ∗ (bigSep Finset.univ fun k => iprop(atPos ER (kcell (c, k)) 0 ∅ 0 ∗ reached ER (kcell (c, k)) 0)) ∗ toks c ∗ copySems c) : sProp 𝕄)
      ⊢ bigSep Finset.univ (G' m ρ) := by
  rw [bigSep_sep', bigSep_sep', bigSep_sep', ← bigSep_univ_prod (fun ck : Dev nD × CK => iprop(∃ κ : ℕ, cellInv ER (lossRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hcp⟩
  ihave HK := (BI.bigSep_exists_pi Finset.univ (fun (ck : Dev nD × CK) (κ : ℕ) => (cellInv ER (lossRd m ρ) κ (kcell ck) : sProp 𝕄))) $$ HI
  icases HK with ⟨%K, #HI⟩
  ihave Htk := (toks_around (F := F)) $$ Htok
  iapply (bigSep_beside (R := records m ρ K) fun c _ => ghost_intro m ρ K c)
  isplitr
  · unfold records; isplitl; · iexact HI
    iexact HR
  simp only [bigSep_sep']
  isplitl [Hat Htk]
  · isplitl [Hat]
    · iapply (show (bigSep Finset.univ fun c : Dev nD => bigSep Finset.univ fun k : CK => (atPos ER (kcell (c, k)) 0 ∅ 0 : sProp 𝕄))
          ⊢ bigSep Finset.univ fun c : Dev nD => positions c from bigSep_mono fun c _ => positions_intro c)
      iexact Hat
    iexact Htk
  iexact Hcp

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tally_at (a b : Dev nD × CK) (n : ℕ) : (tallyAt (kcell a) () n : CellTallies nD τ sig Unit) (kcell b) () = if b = a then n else 0 := by
  rw [tallyAt_apply]
  exact if_congr ⟨fun h => kcell_inj h.1, fun h => ⟨congrArg kcell h, rfl⟩⟩ rfl rfl
theorem peer_iff (p : Fin 3) (c d : Dev nD) : (c = peer p d) = (d = peer p c) :=
  propext ⟨fun h => by rw [h, peer_peer], fun h => by rw [h, peer_peer]⟩

theorem owed_bar (d c : Dev nD) : O₀ d (barCell c) ()
    = (if d = peer 2 c then 1 else 0) + (if d = peer 1 c then 1 else 0) + (if d = peer 0 c then 1 else 0) := by
  unfold O₀ OB1 OB2 OR OR1 OR2
  simp only [Pi.add_apply, Finsupp.add_apply, tally_at, Prod.mk.injEq, reduceCtorEq, and_false, and_true, if_false, Nat.zero_add, peer_iff _ c d]
theorem owed_recv (d c : Dev nD) (p : Fin 3) : O₀ d (recvCell c p) () = if d = peer p c then N else 0 := by
  unfold O₀ OB1 OB2 OR OR1 OR2
  simp only [Pi.add_apply, Finsupp.add_apply, tally_at, Prod.mk.injEq, reduceCtorEq, and_false, if_false, Nat.add_zero, peer_iff _ c d, Option.some.injEq, true_and]
  fin_cases p <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 0 c) fun _ => 1, Finset.sum_ite_eq' Finset.univ (peer 1 c) fun _ => 1, Finset.sum_ite_eq' Finset.univ (peer 2 c) fun _ => 1,
    if_pos (Finset.mem_univ _), if_pos (Finset.mem_univ _), if_pos (Finset.mem_univ _)]
theorem launch_recv (c : Dev nD) (p : Fin 3) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p, Finset.sum_ite_eq' Finset.univ (peer p c) fun _ => N,
    if_pos (Finset.mem_univ _)]

theorem creds (c : Dev nD) : (Pipeline.launchCred O₀ c : sProp 𝕄) ⊢ launchCreds c := by
  unfold Pipeline.launchCred launchCreds
  rw [bigSep_univ_at _ (SemLoc.reg barS), launch_bar]
  refine sep_mono_right ?_
  rw [BI.bigSep_erase (i := SemLoc.dma (recvS 0)) (by decide), BI.bigSep_erase (i := SemLoc.dma (recvS 1)) (by decide), ← launch_recv c 0, ← launch_recv c 1, ← launch_recv c 2]
  exact sep_mono_right (sep_mono_right (bigSep_elim (i := SemLoc.dma (recvS 2)) (by decide)))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨HW, Hlev, Hcr, -, HG⟩
  ihave Hc := (creds (F := F) c) $$ Hcr
  imodintro
  unfold start G' wPts s₀; dsimp only
  isplitl
  · isplitl [HG]; · iexact HG
    isplitl [Hc]; · iexact Hc
    isplitl [Hlev]; · iexact Hlev
    iexact HW
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr0 scr1
  iintro ⟨Hs, -, Hr⟩
  isplitl [Hs] <;> iassumption

/-- What a device hands back beyond the pipeline's own: the barrier's counter and `W`. -/
def left (c : Dev nD) : sProp 𝕄 := iprop(unscopedSems0 c ∗ wPts m ρ c)

theorem phi1_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ left copySems sendSems recvSems scr0 scr1; rw [unscopedSems0_eq]
  iintro ⟨HW, H0, H1, ⟨C0, C1, C2, C3⟩, ⟨S0, S1, S2⟩, V, HB⟩
  isplitl [HW HB]
  · isplitl [HB] <;> iassumption
  isplitr [H0 H1]
  · isplitl [C0]; · iexact C0
    isplitl [C1]; · iexact C1
    isplitl [C2]; · iexact C2
    isplitl [C3]; · iexact C3
    isplitl [S0]; · iexact S0
    isplitl [S1]; · iexact S1
    isplitl [S2]; · iexact S2
    iexact V
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every window's array at its computed contents, `W` as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem left_read (c : Dev nD) (s' : Phys nD τ sig (Elt F)) :
    iprop(left m ρ c ∗ emp ∗ SI s') ⊢ |={Set.univ}=> (iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  unfold left wPts
  iintro ⟨⟨Hu, HW⟩, -, HSI⟩
  icombine HSI HW gives %h
  imod (Pipeline.unscopedSems0_read (X := unscopedSems0 c) (c := c) fupd_intro s') $$ [Hu HSI] with ⟨%h2, HSI⟩
  · isplitl [Hu] <;> iassumption
  imodintro
  isplitr
  · ipureintro; exact ⟨h2, Buf.eq_of_forall_mem_univ h⟩
  iexact HSI

set_option maxRecDepth 8000 in
/-- From any memory with zero counters, for any float values: every weakly fair execution of @main on the four devices
    terminates, with each device's result at its computed contents, its arguments as they were, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX' := (own_pair_emb _ _ _) $$ HX
      icases HX' with ⟨HX, -⟩
      ihave HX := (show (BI.own (((Emb.inl : Emb UB (UB × Counters)).trans embR) (initOf lossCells lossToks)) : sProp 𝕄)
          ⊢ BI.own (ER (initOf lossCells lossToks)) from Entails.of_eq rfl) $$ HX
      imod (fund_loss m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := left_read m ρ)
    (hQ := fun _ h hs => ⟨fun c => ⟨fun w => (h c).1 w, (h c).2.2.2⟩, sem_eq_zero hs fun c => (h c).2.2.1⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_l (c : Dev nD) : finalA m ρ c (1 : Fin 3) = (s₀ m ρ).mem (win0_1.arr.view.loc (c : Thread nD τ)) :=
  (dats (F := F) m ρ 0 c).arrAt_in (1 : Fin 3) rfl _

end Cert.Loss
-- ==== Proof.Same.lean ====
/-
# `Same`: the program as printed and the idealized program are the same program

The ideal pass rewrote nothing, so the two body tables and the two `main`s are equal, and a fact about one is a fact about the other.
-/
module

public import proofs.«01_k».proof.Defs
public import proofs.«01_k».proof.Proof.Gen.Kernel
public import proofs.«01_k».proof.Proof.Gen.KernelIdeal

@[expose] public section

set_option maxHeartbeats 1000000

noncomputable section

namespace Cert.Proof

open Idealize.ShloMosaic Idealize.SL.Sem
attribute [local instance] Cert.Kernel.Gen.facts Cert.KernelIdeal.Gen.facts

variable {F : FTy → Type} [FloatOps F]
theorem win_same : Cert.Kernel.win0 = Cert.KernelIdeal.win0 := rfl
theorem body_same (a b c d e f g h i j k l m : _) : Cert.Kernel.cc0_body (F := F) a b c d e f g h i j k l m = Cert.KernelIdeal.cc0_body (F := F) a b c d e f g h i j k l m := rfl
theorem lab_same : Cert.Kernel.Λ₀ = Cert.KernelIdeal.Λ₀ := rfl
theorem defs₀_same : Cert.Kernel.defs₀ (F := F) = Cert.KernelIdeal.defs₀ (F := F) := by
  unfold Cert.Kernel.defs₀ Cert.KernelIdeal.defs₀
  congr 1
  funext l x
  obtain ⟨l, hl⟩ := l
  match l, hl with
  | 0, _ => obtain ⟨t, s⟩ := x; rfl
theorem defs_same : Cert.Kernel.defs (F := F) = Cert.KernelIdeal.defs (F := F) := congrArg (Pipeline.defs Cert.KernelIdeal.pcfgs) defs₀_same
theorem main_same (c) : Cert.Kernel.main (F := F) c = Cert.KernelIdeal.main (F := F) c := rfl
end Cert.Proof
end
-- ==== Proof.Frames.lean ====
/-
# `Frames`: the side conditions of the precondition, and the frames
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Same
public import Idealize.ShloMosaic.Adequacy
public import Idealize.ShloMosaic.Init

@[expose] public section

noncomputable section

namespace Cert.Proof

open Idealize.ShloMosaic Idealize.SL.Sem

theorem preFacts : Cert.Pre_finite_labels_in_range_KernelIdeal.Facts where
  bcast_S_S512x1024 := by decide
  reducesTo_S512x1024_S_d0_1 := by decide
  h_S_ := by decide
  bcast_S_S1024x8192 := by decide
  reducesTo_S1024x8192_S_d0_1 := by decide
  bcast_S_S512x1 := by decide
  reducesTo_S512x1_S_d0_1 := by decide

theorem preFactsR : Cert.Pre_finite_labels_in_range_ReferenceIdeal.Facts where
  bcast_S_S512x1024 := by decide
  reducesTo_S512x1024_S_d0_1 := by decide
  h_S_ := by decide
  bcast_S_S1024x16384 := by decide
  reducesTo_S1024x16384_S_d0_1 := by decide
  bcast_S_S512x1 := by decide
  reducesTo_S512x1_S_d0_1 := by decide

attribute [local instance] Cert.Kernel.Gen.facts Cert.KernelIdeal.Gen.facts Cert.ReferenceIdeal.Gen.facts preFacts preFactsR

/-- What the run leaves of the arguments. -/
theorem kept {F : FTy → Type} [FloatOps F] (m : (ℓ : Loc Cert.KernelIdeal.nD Cert.KernelIdeal.τ Cert.KernelIdeal.sig) → Buf (Elt F) ℓ) (ρ) (r)
    (h : Cert.Loss.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  ⟨((h c).1 (0 : Fin 3)).trans (Cert.Loss.finalA_x m ρ c), (h c).2, ((h c).1 (1 : Fin 3)).trans (Cert.Loss.finalA_l m ρ c)⟩

theorem frame_kernel : Cert.quiescent_Kernel := fun m ρ _ => by
  rw [defs_same]
  have hm : Cert.Kernel.main (F := Bits) = Cert.KernelIdeal.main (F := Bits) := funext main_same
  rw [hm]
  exact (θ_run Cert.KernelIdeal.defs _ _).mono (fun r h => ⟨kept (F := Bits) m ρ r h.1, h.2⟩) (Cert.Loss.run_main (F := Bits) m ρ)
theorem frame_ideal : Cert.quiescent_KernelIdeal := fun m ρ _ =>
  (θ_run Cert.KernelIdeal.defs _ _).mono (fun r h => ⟨kept m ρ r h.1, h.2⟩) (Cert.Loss.run_main (F := Ideal) m ρ)
theorem frame_ideal_pre : Cert.quiescent_KernelIdeal_pre_finite_labels_in_range_KernelIdeal := fun m ρ _ => frame_ideal m ρ trivial

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ref_pre : Cert.quiescent_ReferenceIdeal_pre_finite_labels_in_range_ReferenceIdeal := fun m ρ _ => frame_ref m ρ trivial

end Cert.Proof

end
-- ==== Proof.Result.lean ====
/-
# `Result`: what the result array holds when the pipeline has run

The one grid point writes the whole of the result array, so the array ends holding what the body left.
-/
module

public import proofs.«01_k».proof.Proof.Launch

@[expose] public section

noncomputable section

namespace Cert.Loss

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- What the one point writes back is the whole of the body's result. -/
theorem flushed_out (c : Dev nD) (t : Fin cfg0.N) (hf : (cfg0.win (2 : Fin 3)).flush t = true) :
    (dats m ρ 0 c).flushed (2 : Fin 3) t = ((cfg0.win (2 : Fin 3)).blk t).view.read (Elt F) (outv m ρ c) := by
  rw [fin_N0 t]
  show (cfg0.win (2 : Fin 3)).cut (grid0.coords t0_0) ((dats m ρ 0 c).after (2 : Fin 3) t0_0) = _
  have hz : (fun a => win0_2.index t0_0 a * main_v1.ty.shape.size a) = fun _ => 0 := funext fun a => by fin_cases a <;> decide
  exact (Memref.read_access_unit_zero (Elt F) main_v1 hz (fun a => by rw [congrFun hz a]; simp) (outv m ρ c)).symm

/-- The result array ends holding the body's result. -/
theorem final_out (c : Dev nD) : finalA m ρ c (2 : Fin 3) = outv m ρ c :=
  (dats m ρ 0 c).arrAt_eq_of_cover (2 : Fin 3) (outv m ρ c) (flushed_out m ρ c) fun i =>
    ⟨t0_0, flush0_2 t0_0, by
      show i ∈ ((View.whole main_v1).slice (win0_2.rect t0_0)).set
      rw [View.set_slice_whole, Rect.mem_set_unit]
      intro a
      have h0 : (i 0 : Nat) < 512 := (i 0).isLt
      have h1 : (i 1 : Nat) < 1 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 512 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 1 from by decide +kernel]; omega⟩

/-- The run of the kernel, read: every device's result array at the body's result, the arguments as they were. -/
theorem run_read : θ_run defs (onTc main) (⟨m, fun _ => 0, ρ⟩ : MemSt nD τ sig (Elt F)) (fun r => ∀ c : Dev nD,
    r.2.mem ((c : Thread nD τ).loc main_v1) = outv m ρ c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun r h c =>
    ⟨((h.1 c).1 (2 : Fin 3)).trans (final_out m ρ c), ((h.1 c).1 (0 : Fin 3)).trans (finalA_x m ρ c), (h.1 c).2,
      ((h.1 c).1 (1 : Fin 3)).trans (finalA_l m ρ c)⟩) (run_main m ρ)

end Cert.Loss

end
-- ==== Proof.KernelAt.lean ====
/-
# `KernelAt`: the kernel's sums read at a row

Every payload of the body, at the row `i`, as sums of extended reals: a piece adds the exponentials of its 1024 logits to
the one sum, and the logit at the label's column, if the piece holds it, to the other.
-/
module

public import proofs.«01_k».proof.Proof.Common
public import Idealize.ShloMosaic.Lib.Pointwise

@[expose] public section

noncomputable section

namespace Cert.Loss

open Cert.KernelIdeal Cert.KernelIdeal.Gen

open Idealize.ShloMosaic
open Idealize.ShloMosaic.TcCoe
open Idealize.SL.Sem

/-- A logit of a piece: row `i` of `x` against column `j` of the piece. -/
def lg (x : Vec Ideal S512x1024 .f32) (w : Vec Ideal S1x1024x1024 .f32) (i : Fin 512) (j : Fin 1024) : EReal :=
  ∑ d : Fin 1024, x (ix2 i d) * w (ix3 0 d j)

theorem pay3_at (x : Vec Ideal S512x1024 .f32) (w : Vec Ideal S1x1024x1024 .f32) (i : Fin 512) (j : Fin 1024) :
    k0_pay3 x w (ix2 i j) = lg x w i j := by
  unfold lg
  pointwise [k0_pay3]

theorem pay4_at (x : Vec Ideal S512x1024 .f32) (w : Vec Ideal S1x1024x1024 .f32) (i : Fin 512) :
    k0_pay4 x w (ix2 i 0) = ∑ j, Ideal.exp (lg x w i j) := by
  unfold lg
  pointwise [k0_pay4, k0_pay3]

theorem pay8_at (a : FVec Ideal S512x1 .f32) (x : Vec Ideal S512x1024 .f32) (w : Vec Ideal S1x1024x1024 .f32) (i : Fin 512) :
    k0_pay8 a x w (ix2 i 0) = a (ix2 i 0) + ∑ j, Ideal.exp (lg x w i j) := by
  unfold lg
  pointwise [k0_pay8, k0_pay7]

theorem pay12_at (a : FVec Ideal S512x1 .f32) (x : Vec Ideal S512x1024 .f32) (w : Vec Ideal S1x1024x1024 .f32) (i : Fin 512) :
    k0_pay12 a x w (ix2 i 0) = a (ix2 i 0) + ∑ j, Ideal.exp (lg x w i j) := by
  unfold lg
  pointwise [k0_pay12, k0_pay11]

theorem pay15_at (a : FVec Ideal S512x1 .f32) (x : Vec Ideal S512x1024 .f32) (w : Vec Ideal S1x1024x1024 .f32) (i : Fin 512) :
    k0_pay15 a x w (ix2 i 0) = a (ix2 i 0) + ∑ j, Ideal.exp (lg x w i j) := by
  unfold lg
  pointwise [k0_pay15, k0_pay14]

/-- The logit at column `j` if the piece at offset `o` of device word `xx`, base `b`, has the label there, else zero. -/
def pk (xx b o : BitVec 32) (l : BitVec 32) (j : Fin 1024) (v : EReal) : EReal :=
  Scalar.select (IntOp.cmpi .eq (BitVec.ofNat 32 j.val) (l - xx * 8192#32 - b - o)) v 0

theorem gsum1_at (xx b : BitVec 32) (x : Vec Ideal S512x1024 .f32) (w : Vec Ideal S1x1024x1024 .f32) (l : Vec Ideal S512x1 .i32) (i : Fin 512) :
    k0_pay6 b k0_pay2 colv (k0_pay3 x w) (k0_pay5 (F := Ideal) xx l) (ix2 i 0) = ∑ j, pk xx b 0 (l (ix2 i 0)) j (lg x w i j) := by
  unfold pk lg
  pointwise [k0_pay6, k0_pay2, k0_pay3, k0_pay5]
  rfl

theorem pay10_at (xx b : BitVec 32) (a : FVec Ideal S512x1 .f32) (x : Vec Ideal S512x1024 .f32) (w : Vec Ideal S1x1024x1024 .f32)
    (l : Vec Ideal S512x1 .i32) (i : Fin 512) :
    k0_pay10 xx b colv a (k0_pay7 x w) (k0_pay9 (F := Ideal) l) (ix2 i 0)
      = a (ix2 i 0) + ∑ j, pk xx b 1024#32 (l (ix2 i 0)) j (lg x w i j) := by
  unfold pk lg
  pointwise [k0_pay10, k0_pay7, k0_pay9]
  rfl

theorem pay13_at (xx b : BitVec 32) (a : FVec Ideal S512x1 .f32) (x : Vec Ideal S512x1024 .f32) (w : Vec Ideal S1x1024x1024 .f32)
    (l : Vec Ideal S512x1 .i32) (i : Fin 512) :
    k0_pay13 xx b colv a (k0_pay11 x w) l (ix2 i 0)
      = a (ix2 i 0) + ∑ j, pk xx b 2048#32 (l (ix2 i 0)) j (lg x w i j) := by
  unfold pk lg
  pointwise [k0_pay13, k0_pay11]
  rfl

theorem pay18_at (xx b : BitVec 32) (a : FVec Ideal S512x1 .f32) (x : Vec Ideal S512x1024 .f32) (w : Vec Ideal S1x1024x1024 .f32)
    (l : Vec Ideal S512x1 .i32) (i : Fin 512) :
    k0_pay18 colv a (k0_pay14 x w) (k0_pay16 (F := Ideal) xx l) (k0_pay17 b) (ix2 i 0)
      = a (ix2 i 0) + ∑ j, pk xx b 3072#32 (l (ix2 i 0)) j (lg x w i j) := by
  unfold pk lg
  pointwise [k0_pay18, k0_pay14, k0_pay16, k0_pay17]
  rfl

/-- The payload of the result, at a row. -/
theorem pay1_at (s0 s1 s2 s3 g0 g1 g2 g3 : FVec Ideal S512x1 .f32) (i : Fin 512) :
    k0_pay1 (k0_pay21 s0 (colOf s1) (colOf s2)) (k0_pay22 g0 (colOf g1) (colOf g2)) (colOf s3) (colOf g3) (ix2 i 0)
      = Ideal.log (s0 (ix2 i 0) + s1 (ix2 i 0) + s2 (ix2 i 0) + s3 (ix2 i 0))
        - (g0 (ix2 i 0) + g1 (ix2 i 0) + g2 (ix2 i 0) + g3 (ix2 i 0)) := by
  pointwise [k0_pay1, k0_pay21, k0_pay22, colOf, k0_pay19]

/-! ## The words -/

theorem xw_eq : ∀ c : Dev nD, xw c = BitVec.ofNat 32 (c.val / 2) := by decide +kernel
theorem bw_eq : ∀ c : Dev nD, bw c = BitVec.ofNat 32 (4096 * (c.val % 2)) := by decide +kernel

/-- The comparison of a column with the label less the column's offset is the comparison of the whole column with the label. -/
theorem pk_eq (c : Dev nD) (k : Fin 4) (l : BitVec 32) (hl : l.toNat < 16384) (j : Fin 1024) (v : EReal) :
    pk (xw c) (bw c) (BitVec.ofNat 32 (1024 * k.val)) l j v = if l.toNat = c.val * 4096 + (k.val * 1024 + j.val) then v else 0 := by
  have hc : c.val < 4 := c.isLt
  have hk := k.isLt
  have hj := j.isLt
  have key : (BitVec.ofNat 32 j.val = l - BitVec.ofNat 32 (c.val / 2) * 8192#32 - BitVec.ofNat 32 (4096 * (c.val % 2)) - BitVec.ofNat 32 (1024 * k.val))
      ↔ l.toNat = c.val * 4096 + (k.val * 1024 + j.val) := by
    rw [← BitVec.toNat_inj]
    simp only [BitVec.toNat_sub, BitVec.toNat_mul, BitVec.toNat_ofNat]
    omega
  unfold pk
  rw [xw_eq, bw_eq]
  by_cases h : l.toNat = c.val * 4096 + (k.val * 1024 + j.val)
  · rw [if_pos h, ← key.mpr h]
    simp [Scalar.select, IntOp.cmpi]
  · rw [if_neg h]
    have h' := fun e => h (key.mp e)
    simp only [Scalar.select, IntOp.cmpi]
    refine if_neg fun e => h' ?_
    by_contra hn
    rw [beq_eq_false_iff_ne.mpr hn] at e
    exact absurd e (by decide)

variable (m : (ℓ : Loc nD τ sig) → Buf (Elt Ideal) ℓ) (ρ : Dev nD → PrngReg)

/-- What a device's two windows stage, and what its pieces hold. -/
theorem xv_eq (c : Dev nD) : xv m ρ c = m ((c.tc : Thread nD τ).loc main_arg0) := by
  have hz : (fun a => win0_0.index (0 : Fin 1) a * main_arg0.ty.shape.size a) = fun _ => 0 := funext fun a => by fin_cases a <;> decide
  exact Memref.read_access_unit_zero (Elt Ideal) main_arg0 hz (fun a => by rw [congrFun hz a]; simp) (m ((c.tc : Thread nD τ).loc main_arg0))

theorem lv_eq (c : Dev nD) : lv' m ρ c = m ((c.tc : Thread nD τ).loc main_arg2) := by
  have hz : (fun a => win0_1.index (0 : Fin 1) a * main_arg2.ty.shape.size a) = fun _ => 0 := funext fun a => by fin_cases a <;> decide
  exact Memref.read_access_unit_zero (Elt Ideal) main_arg2 hz (fun a => by rw [congrFun hz a]; simp) (m ((c.tc : Thread nD τ).loc main_arg2))

theorem wv_at (c : Dev nD) (k : Fin 4) (d j : Fin 1024) :
    wv m ρ c k (ix3 0 d j) = m ((c.tc : Thread nD τ).loc main_arg1)
      (ix2 d ⟨4096 * (c.val % 2) + 1024 * k.val + j.val, by have := k.isLt; have := j.isLt; omega⟩ : S1024x8192.Idx) := by
  have e : wv m ρ c k (ix3 0 d j) = (pieceM c k).view.read (Elt Ideal) (m ((c.tc : Thread nD τ).loc main_arg1)) (ix2 d j) := by
    unfold wv
    pointwise
    rfl
  rw [e]
  show m _ _ = m _ _
  congr 1
  funext a
  apply Fin.ext
  have h := k0_off1_eq c k
  match a with
  | ⟨0, _⟩ =>
    show k0_off1 c (BitVec.ofNat 32 (1024 * k.val)) 0 + 1 * d.val = d.val
    rw [h]; simp
  | ⟨1, _⟩ =>
    show k0_off1 c (BitVec.ofNat 32 (1024 * k.val)) 1 + 1 * j.val = _
    rw [h]; simp

/-! ## The whole sums -/

/-- The logit of row `i` and column `n` of the whole product. -/
def LG (X : S512x1024.Idx → EReal) (W : (⟨2, ![1024, 16384]⟩ : Shape).Idx → EReal) (i : Fin 512) (n : Fin 16384) : EReal :=
  ∑ d : Fin 1024, X (ix2 i d) * W (ix2 d n)

/-- The column that column `j` of piece `k` of device `c` is. -/
abbrev at4 (c k : Fin 4) (j : Fin 1024) : Fin 16384 :=
  ⟨c.val * 4096 + (k.val * 1024 + j.val), by have := c.isLt; have := k.isLt; have := j.isLt; omega⟩

theorem sum_at4 (f : Fin 16384 → EReal) : ∑ n, f n = ∑ c, ∑ k, ∑ j, f (at4 c k j) := by
  rw [Fin.sum_univ_tiles 4 4096 (by norm_num) f]
  refine Finset.sum_congr rfl fun c _ => ?_
  rw [Fin.sum_univ_tiles 4 1024 (by norm_num)]

theorem sum_peers (f : Fin 4 → EReal) (c : Dev nD) : f c + f (peer 0 c) + f (peer 1 c) + f (peer 2 c) = ∑ d, f d := by
  rw [Fin.sum_univ_four]
  have hc : c = 0 ∨ c = 1 ∨ c = 2 ∨ c = 3 := by revert c; decide
  rcases hc with rfl | rfl | rfl | rfl
  · show f 0 + f 1 + f 2 + f 3 = _
    rfl
  · show f 1 + f 0 + f 3 + f 2 = _
    ac_rfl
  · show f 2 + f 3 + f 0 + f 1 = _
    ac_rfl
  · show f 3 + f 2 + f 1 + f 0 = _
    ac_rfl

/-- The column of the whole that column `j` of the block of device `c` is: the mesh's first axis cuts the columns in two. -/
def blkCol (c : Dev nD) (j : Fin 8192) : Fin 16384 := ⟨c.val / 2 * 8192 + j.val, by have : c.val < 4 := c.isLt; have := j.isLt; omega⟩

section Device
variable (X : S512x1024.Idx → EReal) (W : (⟨2, ![1024, 16384]⟩ : Shape).Idx → EReal) (lab : S512x1.Idx → BitVec 32)
variable (hX : ∀ c : Dev nD, m ((c.tc : Thread nD τ).loc main_arg0) = X)
  (hW : ∀ (c : Dev nD) (d : Fin 1024) (j : Fin 8192), m ((c.tc : Thread nD τ).loc main_arg1) (ix2 d j : S1024x8192.Idx) = W (ix2 d (blkCol c j)))
  (hL : ∀ c : Dev nD, m ((c.tc : Thread nD τ).loc main_arg2) = lab)

include hX hW in
theorem lg_eq (c : Dev nD) (k : Fin 4) (i : Fin 512) (j : Fin 1024) : lg (xv m ρ c) (wv m ρ c k) i j = LG X W i (at4 c k j) := by
  unfold lg LG
  refine Finset.sum_congr rfl fun d _ => ?_
  rw [wv_at, xv_eq, hX, hW]
  refine congrArg (fun n => X (ix2 i d) * W (ix2 d n)) (Fin.ext ?_)
  show c.val / 2 * 8192 + (4096 * (c.val % 2) + 1024 * k.val + j.val) = c.val * 4096 + (k.val * 1024 + j.val)
  omega

include hX hW in
theorem sv_at (c : Dev nD) (i : Fin 512) : sv m ρ c (ix2 i 0) = ∑ k, ∑ j, Ideal.exp (LG X W i (at4 c k j)) := by
  unfold sv sv3 sv2 sv1
  rw [pay15_at, pay12_at, pay8_at, pay4_at, Fin.sum_univ_four]
  simp only [lg_eq m ρ X W hX hW]

include hX hW hL in
theorem gv_at (c : Dev nD) (i : Fin 512) (h : (lab (ix2 i 0)).toNat < 16384) :
    gv m ρ c (ix2 i 0) = ∑ k, ∑ j, if (lab (ix2 i 0)).toNat = (at4 c k j).val then LG X W i (at4 c k j) else 0 := by
  unfold gv gv3 gv2 gv1
  rw [pay18_at, pay13_at, pay10_at, gsum1_at, Fin.sum_univ_four]
  simp only [lg_eq m ρ X W hX hW, lv_eq, hL]
  have e := fun (k : Fin 4) (j : Fin 1024) => pk_eq c k (lab (ix2 i 0)) h j (LG X W i (at4 c k j))
  have e0 := e 0
  have e1 := e 1
  have e2 := e 2
  have e3 := e 3
  refine congrArg₂ (· + ·) (congrArg₂ (· + ·) (congrArg₂ (· + ·) ?_ ?_) ?_) ?_
  · exact Finset.sum_congr rfl fun j _ => e0 j
  · exact Finset.sum_congr rfl fun j _ => e1 j
  · exact Finset.sum_congr rfl fun j _ => e2 j
  · exact Finset.sum_congr rfl fun j _ => e3 j

include hX hW hL in
/-- The result of every device, at a row: the logarithm of the sum of the exponentials, less the label's logit. -/
theorem outv_at (c : Dev nD) (i : Fin 512) (h : (lab (ix2 i 0)).toNat < 16384) :
    outv m ρ c (ix2 i 0) = Ideal.log (∑ n, Ideal.exp (LG X W i n)) - LG X W i ⟨(lab (ix2 i 0)).toNat, h⟩ := by
  unfold outv
  rw [pay1_at]
  simp only [sv_at m ρ X W hX hW]
  rw [gv_at m ρ X W lab hX hW hL _ i h, gv_at m ρ X W lab hX hW hL _ i h, gv_at m ρ X W lab hX hW hL _ i h, gv_at m ρ X W lab hX hW hL _ i h]
  rw [sum_peers (fun c => ∑ k, ∑ j, Ideal.exp (LG X W i (at4 c k j))) c,
    sum_peers (fun c => ∑ k, ∑ j, if (lab (ix2 i 0)).toNat = (at4 c k j).val then LG X W i (at4 c k j) else 0) c,
    ← sum_at4 (fun n => Ideal.exp (LG X W i n)), ← sum_at4 (fun n => if (lab (ix2 i 0)).toNat = n.val then LG X W i n else 0)]
  refine congrArg (Ideal.log (∑ n, Ideal.exp (LG X W i n)) - ·) ?_
  rw [Finset.sum_eq_single (⟨(lab (ix2 i 0)).toNat, h⟩ : Fin 16384) (fun n _ hn => if_neg fun e => hn (Fin.ext e.symm))
    (fun hn => absurd (Finset.mem_univ _) hn)]
  exact if_pos rfl

end Device

end Cert.Loss

end
-- ==== Proof.RefAt.lean ====
/-
# `RefAt`: the reference's result read at a row

The reference's term, at the row `i`: the largest logit, the logarithm of the sum of the exponentials of the logits less
the largest, and the logit the label picks.
-/
module

public import proofs.«01_k».proof.Proof.Gen.ReferenceIdeal.Run
public import Idealize.ShloMosaic.Lib.Pointwise
public import Idealize.ShloMosaic.Lib.ValueIdxCore
public import Idealize.ShloMosaic.Lib.DynamicIndex

@[expose] public section

noncomputable section

namespace Cert.RefLoss

open Cert.ReferenceIdeal Cert.ReferenceIdeal.Gen

open Idealize.ShloMosaic
open Idealize.ShloMosaic.TcCoe
open Idealize.SL.Sem

section
variable {F : FTy → Type} [FloatOps F]

/-- The logits. -/
def logits (X : FVec F S512x1024 .f32) (W : FVec F S1024x16384 .f32) : FVec F S512x16384 .f32 :=
  Host.dotGeneral dot_S512x1024_S1024x16384_S512x16384_1_0_0_1_n_n none X W
/-- The largest logit of a row. -/
def rowMax (l : FVec F S512x16384 .f32) : FVec F S512 .f32 :=
  Host.reduce FloatOps.maximumf l (constant S_ .f32 0xFF800000#32) reducesTo_S512x16384_S512_d1 h_S_
/-- The largest logit plus the logarithm of the sum of the exponentials. -/
def lse (l : FVec F S512x16384 .f32) : FVec F S512x1 .f32 :=
  addf (broadcastInDim S512x1 ![0] bcast_S512_S512x1_0 (rowMax l))
    (Host.log (broadcastInDim S512x1 ![0] bcast_S512_S512x1_0
      (Host.reduceAdd (Host.exp (subf l (broadcastInDim S512x16384 ![0, 1] bcast_S512x1_S512x16384_0_1
        (broadcastInDim S512x1 ![0] bcast_S512_S512x1_0 (rowMax l)))))
        (constant S_ .f32 0x00000000#32) reducesTo_S512x16384_S512_d1 h_S_)))
/-- The row and the label, one pair of indices for each row. -/
def pairs (lab : IVec S512x1 32) : IVec S512x2 32 :=
  concatenate S512x2 1 [⟨S512x1, (broadcastInDim S512x1 ![0] bcast_S512_S512x1_0
      (select (cmpi .slt (iotaInDim S512 32 0) (broadcastInDim S512 ![] bcast_S_S512 (constantI S_ 32 0#32)))
        (addi (iotaInDim S512 32 0) (broadcastInDim S512 ![] bcast_S_S512 (constantI S_ 32 512#32))) (iotaInDim S512 32 0)))⟩,
    ⟨S512x1, (broadcastInDim S512x1 ![0] bcast_S512_S512x1_0
      (select (cmpi .slt (shapeCast _ lab shapeCasts_S512x1_S512) (broadcastInDim S512 ![] bcast_S_S512 (constantI S_ 32 0#32)))
        (addi (shapeCast _ lab shapeCasts_S512x1_S512) (broadcastInDim S512 ![] bcast_S_S512 (constantI S_ 32 16384#32)))
        (shapeCast _ lab shapeCasts_S512x1_S512)))⟩] concatenates_S512x1_S512x1_S512x2_d1
/-- The reference's result. -/
def loss (X : FVec F S512x1024 .f32) (W : FVec F S1024x16384 .f32) (lab : IVec S512x1 32) : FVec F S512x1 .f32 :=
  shapeCast _ (subf (shapeCast _ (lse (logits X W)) shapeCasts_S512x1_S512)
    (Host.gather gather_S512x16384_S512x2_S512_n_01_n_n_01_1_11 (logits X W) (pairs lab))) shapeCasts_S512_S512x1

/-- The run of the reference, its result named. -/
theorem run_loss (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ
end

/-- The gather at a row: the operand at the pair of indices the row names, each read signed and clamped. -/
theorem gather_at {α : Type} (x : S512x16384.Idx → α) (idx : IVec S512x2 32) (i : Fin 512) :
    Host.gather gather_S512x16384_S512x2_S512_n_01_n_n_01_1_11 x idx (ix1 i)
      = x (ix2 ⟨min (idx (ix2 i 0)).toInt.toNat 511, by omega⟩ ⟨min (idx (ix2 i 1)).toInt.toNat 16383, by omega⟩) := by
  unfold Host.gather
  congr 1
  funext a
  refine Fin.ext ?_
  have hc : a ∈ gather_S512x16384_S512x2_S512_n_01_n_n_01_1_11.collapsedSliceDims := by
    show a ∈ ([0, 1] : List (Fin 2))
    fin_cases a <;> simp
  have hm : a ∈ gather_S512x16384_S512x2_S512_n_01_n_n_01_1_11.startIndexMap := hc
  show GatherDims.start _ (ix1 i) idx a + GatherDims.batchCoord _ (ix1 i) a + GatherDims.offCoord _ (ix1 i) a = _
  rw [GatherDims.batchCoord_eq_zero _ _ _ List.not_mem_nil,
    GatherDims.offCoord_eq_zero _ _ _ (fun h => ((GatherDims.mem_sKept _ _).mp h).1 hc)]
  simp only [Nat.add_zero]
  unfold GatherDims.start
  rw [dif_pos hm]
  match a with
  | ⟨0, _⟩ =>
    have e : GatherDims.siIdx gather_S512x16384_S512x2_S512_n_01_n_n_01_1_11 (ix1 i)
        ⟨List.idxOf _ gather_S512x16384_S512x2_S512_n_01_n_n_01_1_11.startIndexMap, List.idxOf_lt_length_iff.2 hm⟩ = ix2 i 0 := by
      funext b; refine Fin.ext ?_
      match b with
      | ⟨0, _⟩ => rfl
      | ⟨1, _⟩ => rfl
    rw [e]; rfl
  | ⟨1, _⟩ =>
    have e : GatherDims.siIdx gather_S512x16384_S512x2_S512_n_01_n_n_01_1_11 (ix1 i)
        ⟨List.idxOf _ gather_S512x16384_S512x2_S512_n_01_n_n_01_1_11.startIndexMap, List.idxOf_lt_length_iff.2 hm⟩ = ix2 i 1 := by
      funext b; refine Fin.ext ?_
      match b with
      | ⟨0, _⟩ => rfl
      | ⟨1, _⟩ => rfl
    rw [e]; rfl

/-- A logit. -/
theorem logits_at (X : FVec Ideal S512x1024 .f32) (W : FVec Ideal S1024x16384 .f32) (i : Fin 512) (n : Fin 16384) :
    logits X W (ix2 i n) = ∑ d : Fin 1024, X (ix2 i d) * W (ix2 d n) := by
  pointwise [logits]

/-- The largest of a row, for any number of columns. -/
theorem reduce_max_at {n k : Nat} (h : (⟨2, ![n, k]⟩ : Shape).ReducesTo [1] ⟨1, ![n]⟩) (l : FVec Ideal ⟨2, ![n, k]⟩ .f32)
    (v : FVec Ideal S_ .f32) (i : Fin n) :
    Host.reduce FloatOps.maximumf l v h h_S_ (ix1 i) = Finset.univ.fold max (v (Shape.Idx.first h_S_)) fun n => l (ix2 i n) := by
  pointwise []

theorem rowMax_at (l : FVec Ideal S512x16384 .f32) (i : Fin 512) :
    rowMax l (ix1 i) = Finset.univ.fold max (⊥ : EReal) fun n => l (ix2 i n) := by
  have hb : (constant S_ .f32 0xFF800000#32 : FVec Ideal S_ .f32) (Shape.Idx.first h_S_) = (⊥ : EReal) := by
    show Ideal.ofBits .f32 0xFF800000#32 = ⊥
    simp [Ideal.ofBits, Ideal.ieee]
  have e := reduce_max_at reducesTo_S512x16384_S512_d1 l (constant S_ .f32 0xFF800000#32) i
  rw [hb] at e
  exact e

/-- The sum of a row, for any number of columns. -/
theorem reduce_sum_at {n k : Nat} (h : (⟨2, ![n, k]⟩ : Shape).ReducesTo [1] ⟨1, ![n]⟩) (l : FVec Ideal ⟨2, ![n, k]⟩ .f32) (i : Fin n) :
    Host.reduceAdd l (constant S_ .f32 0x00000000#32) h h_S_ (ix1 i) = ∑ j, l (ix2 i j) := by
  pointwise []

theorem add_log_at (a b : FVec Ideal S512 .f32) (i : Fin 512) :
    addf (broadcastInDim S512x1 ![0] bcast_S512_S512x1_0 a) (Host.log (broadcastInDim S512x1 ![0] bcast_S512_S512x1_0 b)) (ix2 i 0)
      = a (ix1 i) + Ideal.log (b (ix1 i)) := by
  pointwise []

theorem exp_sub_at (a : FVec Ideal S512 .f32) (l : FVec Ideal S512x16384 .f32) (i : Fin 512) (n : Fin 16384) :
    Host.exp (subf l (broadcastInDim S512x16384 ![0, 1] bcast_S512x1_S512x16384_0_1
      (broadcastInDim S512x1 ![0] bcast_S512_S512x1_0 a))) (ix2 i n) = Ideal.exp (l (ix2 i n) - a (ix1 i)) := by
  pointwise []

theorem lse_at (l : FVec Ideal S512x16384 .f32) (i : Fin 512) :
    lse l (ix2 i 0) = rowMax l (ix1 i) + Ideal.log (∑ n, Ideal.exp (l (ix2 i n) - rowMax l (ix1 i))) :=
  (add_log_at (rowMax l) _ i).trans (congrArg (fun s => rowMax l (ix1 i) + Ideal.log s)
    ((reduce_sum_at reducesTo_S512x16384_S512_d1 _ i).trans (Finset.sum_congr rfl fun n _ => exp_sub_at (rowMax l) l i n)))

/-- A signed comparison with nought picks the second of two words when the word compared is not negative. -/
theorem pick_of_nonneg (x a b : BitVec 32) (h : 0 ≤ x.toInt) : Scalar.select (IntOp.cmpi .slt x 0#32) a b = b := by
  have hlt : x.slt 0#32 = false := by
    simp only [BitVec.slt, BitVec.toInt_zero, decide_eq_false_iff_not, Int.not_lt]
    exact h
  show (if BitVec.ofBool (x.slt 0#32) = 1 then _ else _) = _
  rw [hlt]
  rfl

theorem pairs_row (lab : IVec S512x1 32) (i : Fin 512) : (pairs lab (ix2 i 0)).toInt.toNat = i.val := by
  have e : pairs lab (ix2 i 0)
      = Scalar.select (IntOp.cmpi .slt (BitVec.ofNat 32 i.val) 0#32) (IntOp.addi (BitVec.ofNat 32 i.val) 512#32) (BitVec.ofNat 32 i.val) := by
    pointwise [pairs]
  have h := toInt_ofNat_of_lt (k := i.val) (by omega)
  rw [e, pick_of_nonneg _ _ _ (by omega), h]
  rfl

theorem pairs_label (lab : IVec S512x1 32) (i : Fin 512) (h : 0 ≤ (lab (ix2 i 0)).toInt) : pairs lab (ix2 i 1) = lab (ix2 i 0) := by
  have e : pairs lab (ix2 i 1)
      = Scalar.select (IntOp.cmpi .slt (lab (ix2 i 0)) 0#32) (IntOp.addi (lab (ix2 i 0)) 16384#32) (lab (ix2 i 0)) := by
    pointwise [pairs]
  rw [e, pick_of_nonneg _ _ _ h]

theorem pair_at (x : FVec Ideal S512x16384 .f32) (lab : IVec S512x1 32) (i : Fin 512) (h0 : 0 ≤ (lab (ix2 i 0)).toInt)
    (h : (lab (ix2 i 0)).toNat < 16384) :
    Host.gather gather_S512x16384_S512x2_S512_n_01_n_n_01_1_11 x (pairs lab) (ix1 i) = x (ix2 i ⟨(lab (ix2 i 0)).toNat, h⟩) := by
  have hr := pairs_row lab i
  have hl : (pairs lab (ix2 i 1)).toInt.toNat = (lab (ix2 i 0)).toNat := by
    rw [pairs_label lab i h0, BitVec.toInt_eq_toNat_of_lt (by omega)]
    rfl
  rw [gather_at]
  refine congrArg₂ (fun a b => x (ix2 a b)) (Fin.ext ?_) (Fin.ext ?_)
  · show min _ 511 = i.val
    omega
  · show min _ 16383 = (lab (ix2 i 0)).toNat
    omega

theorem sub_at (a : FVec Ideal S512x1 .f32) (b : FVec Ideal S512 .f32) (i : Fin 512) :
    shapeCast S512x1 (subf (shapeCast S512 a shapeCasts_S512x1_S512) b) shapeCasts_S512_S512x1 (ix2 i 0) = a (ix2 i 0) - b (ix1 i) := by
  pointwise []

/-- The reference's result, at a row whose label is in range. -/
theorem loss_at (X : FVec Ideal S512x1024 .f32) (W : FVec Ideal S1024x16384 .f32) (lab : IVec S512x1 32) (i : Fin 512)
    (h0 : 0 ≤ (lab (ix2 i 0)).toInt) (h : (lab (ix2 i 0)).toNat < 16384) :
    loss X W lab (ix2 i 0) = lse (logits X W) (ix2 i 0) - logits X W (ix2 i ⟨(lab (ix2 i 0)).toNat, h⟩) :=
  (sub_at (lse (logits X W)) _ i).trans (congrArg (lse (logits X W) (ix2 i 0) - ·) (pair_at (logits X W) lab i h0 h))

end Cert.RefLoss

end
-- ==== Proof.LogSum.lean ====
/-
# `LogSum`: the logarithm of a sum of exponentials, with and without the largest exponent taken out

Over the reals, `M + log (∑ exp (r n - M)) = log (∑ exp (r n))`, for any real `M`. The extended-real sums the programs
compute are sums of reals when every entry of the two factors is one.
-/
module

public import Idealize.ShloMosaic.Lib.Pointwise

@[expose] public section

noncomputable section

namespace Cert.Loss

open Idealize.ShloMosaic

theorem sum_coe {ι : Type} (s : Finset ι) (r : ι → ℝ) : ∑ n ∈ s, (r n : EReal) = ((∑ n ∈ s, r n : ℝ) : EReal) := by
  classical
  induction s using Finset.induction_on with
  | empty => simp
  | insert a s ha ih => rw [Finset.sum_insert ha, Finset.sum_insert ha, ih, EReal.coe_add]

/-- A sum of products of reals is a real. -/
theorem sum_mul_real {ι : Type} [Fintype ι] (f g : ι → EReal) (hf : ∀ d, ∃ r : ℝ, f d = r) (hg : ∀ d, ∃ r : ℝ, g d = r) :
    ∃ r : ℝ, ∑ d, f d * g d = r := by
  choose a ha using hf
  choose b hb using hg
  refine ⟨∑ d, a d * b d, ?_⟩
  rw [← sum_coe]
  exact Finset.sum_congr rfl fun d _ => by rw [ha, hb, EReal.coe_mul]

/-- The largest of finitely many reals is a real. -/
theorem fold_max_real {ι : Type} [Fintype ι] [Nonempty ι] (r : ι → ℝ) :
    ∃ M : ℝ, Finset.univ.fold max (⊥ : EReal) (fun n => (r n : EReal)) = M := by
  obtain ⟨i, -, hi⟩ := Finset.exists_mem_eq_sup (Finset.univ : Finset ι) Finset.univ_nonempty (fun n => (r n : EReal))
  exact ⟨r i, hi⟩

theorem log_sum_exp {ι : Type} [Fintype ι] [Nonempty ι] (l : ι → EReal) (hl : ∀ n, ∃ r : ℝ, l n = r) (M : EReal)
    (hM : M = Finset.univ.fold max (⊥ : EReal) l) :
    M + Ideal.log (∑ n, Ideal.exp (l n - M)) = Ideal.log (∑ n, Ideal.exp (l n)) := by
  choose r hr using hl
  obtain rfl : l = fun n => (r n : EReal) := funext hr
  obtain ⟨x, hx⟩ := fold_max_real r
  obtain rfl : M = (x : EReal) := hM.trans hx
  simp only [← EReal.coe_sub, Ideal.exp_coe, sum_coe]
  have pos : ∀ s : ι → ℝ, 0 < ∑ n, Real.exp (s n) := fun s => Finset.sum_pos (fun n _ => Real.exp_pos _) Finset.univ_nonempty
  rw [Ideal.log_coe, Ideal.log_coe, if_neg (not_le.2 (pos _)), if_neg (not_le.2 (pos _)), ← EReal.coe_add]
  refine congrArg _ ?_
  have e : ∑ n, Real.exp (r n - x) = Real.exp (-x) * ∑ n, Real.exp (r n) := by
    rw [Finset.mul_sum]
    exact Finset.sum_congr rfl fun n _ => by rw [← Real.exp_add]; ring_nf
  rw [e, Real.log_mul (Real.exp_pos _).ne' (pos r).ne', Real.log_exp]
  ring

end Cert.Loss

end
-- ==== Proof.Finite.lean ====
/-
# `Finite`: what the precondition says

Every entry of every device's operands is a real number and every label names a column.
-/
module

public import proofs.«01_k».proof.Proof.Frames
public import Idealize.ShloMosaic.Lib.ReduceAll

@[expose] public section

noncomputable section

namespace Cert.Proof

open Idealize.ShloMosaic
open Idealize.ShloMosaic.TcCoe

attribute [local instance] preFacts

/-- An extended real strictly between the two infinities is a real. -/
theorem real_of_between (x : EReal) (h : IntOp.andi (Ideal.cmp .olt x (Ideal.ofBits .f32 0x7F800000#32)) (Ideal.cmp .ogt x (Ideal.ofBits .f32 0xFF800000#32)) = 1#1) :
    ∃ r : ℝ, x = r := by
  rw [show Ideal.ofBits .f32 0x7F800000#32 = (⊤ : EReal) from by simp [Ideal.ofBits, Ideal.ieee],
    show Ideal.ofBits .f32 0xFF800000#32 = (⊥ : EReal) from by simp [Ideal.ofBits, Ideal.ieee]] at h
  obtain ⟨h1, h2⟩ := IntOp.andi_eq_one.1 h
  induction x using EReal.rec with
  | bot => simp [Ideal.cmp] at h2
  | top => simp [Ideal.cmp] at h1
  | coe r => exact ⟨r, rfl⟩

/-- A word at least nought and less than 16384, read signed. -/
theorem label_range (x : BitVec 32) (h : IntOp.andi (IntOp.cmpi .sge x 0#32) (IntOp.cmpi .slt x 16384#32) = 1#1) :
    0 ≤ x.toInt ∧ x.toNat < 16384 := by
  obtain ⟨h1, h2⟩ := IntOp.andi_eq_one.1 h
  have h1' : 0 ≤ x.toInt := by
    have : (0#32).sle x = true := by
      revert h1; show BitVec.ofBool ((0#32).sle x) = 1#1 → _
      cases (0#32).sle x <;> decide
    simpa [BitVec.sle] using this
  have h2' : x.toInt < 16384 := by
    have : x.slt 16384#32 = true := by
      revert h2; show BitVec.ofBool (x.slt 16384#32) = 1#1 → _
      cases x.slt 16384#32 <;> decide
    simpa [BitVec.slt] using this
  refine ⟨h1', ?_⟩
  rw [BitVec.toInt_eq_toNat_cond] at h1' h2'
  split at h1' <;> omega

open Cert.Pre_finite_labels_in_range_KernelIdeal in
/-- The precondition, read. -/
theorem pre_read (x : FVec Ideal S512x1024 .f32) (w : FVec Ideal S1024x8192 .f32) (lab : IVec S512x1 32)
    (h : fn (F := Ideal) x w lab = fun _ => 1#1) :
    (∀ i, ∃ r : ℝ, x i = r) ∧ (∀ i, ∃ r : ℝ, w i = r) ∧ ∀ i, 0 ≤ (lab i).toInt ∧ (lab i).toNat < 16384 := by
  have e := congrFun h (fun a => a.elim0)
  unfold fn fn_part1 at e
  obtain ⟨e1, e3⟩ := IntOp.andi_eq_one.1 e
  obtain ⟨e1, e2⟩ := IntOp.andi_eq_one.1 e1
  haveI : Subsingleton S_.Idx := ⟨fun a b => funext fun k => k.elim0⟩
  exact ⟨fun i => real_of_between _ (Host.reduce_andi_all _ _ _ _ _ e1 i), fun i => real_of_between _ (Host.reduce_andi_all _ _ _ _ _ e2 i),
    fun i => label_range _ (Host.reduce_andi_all _ _ _ _ _ e3 i)⟩

end Cert.Proof

end
-- ==== Proof.Algebraic.lean ====
/-
# `Algebraic`: the kernel's result is the reference's, over the extended reals

Both read, at a row, as the logarithm of the sum of the exponentials of the row's 16384 logits, less the logit at the
row's label: the kernel by its sums over the devices and the pieces, the reference with the row's largest logit taken out
of the exponents and added back. The two are one number because the logits are reals.
-/
module

public import proofs.«01_k».proof.Proof.Result
public import proofs.«01_k».proof.Proof.KernelAt
public import proofs.«01_k».proof.Proof.RefAt
public import proofs.«01_k».proof.Proof.LogSum
public import proofs.«01_k».proof.Proof.Finite

@[expose] public section

noncomputable section

namespace Cert.Proof

open Idealize.ShloMosaic
open Idealize.ShloMosaic.TcCoe
open Idealize.SL.Sem
open Cert.Loss (LG blkCol)

attribute [local instance] Cert.KernelIdeal.Gen.facts Cert.ReferenceIdeal.Gen.facts preFacts

/-- The block of device `c`, read: column `j` of it is column `blkCol c j` of the whole. -/
theorem block_at (c : Dev Cert.KernelIdeal.nD) (h : ∀ b : Fin 2, ∀ i ∈ (![[], [0]] : Fin 2 → List Nat) b, 0 < [2, 2].getD i 0)
    (h' : Layout.TilesN ⟨2, ![1024, 8192]⟩ ⟨2, ![1024, 16384]⟩ fun b => Layout.cutSize [2, 2] ((![[], [0]] : Fin 2 → List Nat) b))
    (W : (⟨2, ![1024, 16384]⟩ : Shape).Idx → EReal) (d : Fin 1024) (j : Fin 8192) :
    Layout.blockN ⟨2, ![1024, 8192]⟩ ⟨2, ![1024, 16384]⟩ (Layout.meshBlock [2, 2] ![[], [0]] c h) W h' (ix2 d j) = W (ix2 d (blkCol c j)) := by
  have h0 : ∀ c : Dev Cert.KernelIdeal.nD, (Layout.meshBlock [2, 2] ![[], [0]] c (by decide) (0 : Fin 2)).val = 0 := by decide
  have h1 : ∀ c : Dev Cert.KernelIdeal.nD, (Layout.meshBlock [2, 2] ![[], [0]] c (by decide) (1 : Fin 2)).val = c.val / 2 := by decide
  rw [Layout.blockN_apply]
  refine congrArg W (funext fun a => Fin.ext ?_)
  rw [Layout.TilesN.idx_val]
  match a with
  | ⟨0, _⟩ =>
    show (Layout.meshBlock [2, 2] ![[], [0]] c h (0 : Fin 2)).val * 1024 + d.val = d.val
    rw [h0]; omega
  | ⟨1, _⟩ =>
    show (Layout.meshBlock [2, 2] ![[], [0]] c h (1 : Fin 2)).val * 8192 + j.val = c.val / 2 * 8192 + j.val
    rw [h1]

/-- Every column of the whole lies in some device's block. -/
theorem blkCol_onto (n : Fin 16384) : ∃ (c : Dev Cert.KernelIdeal.nD) (j : Fin 8192), blkCol c j = n := by
  have hn := n.isLt
  refine ⟨⟨2 * (n.val / 8192), show _ < 4 by omega⟩, ⟨n.val % 8192, Nat.mod_lt _ (by decide)⟩, Fin.ext ?_⟩
  show 2 * (n.val / 8192) / 2 * 8192 + n.val % 8192 = n.val
  omega

/-- Row by row, the reference's result is the logarithm of the sum of the exponentials, less the label's logit. -/
theorem loss_eq (X : FVec Ideal ⟨2, ![512, 1024]⟩ .f32) (W : FVec Ideal ⟨2, ![1024, 16384]⟩ .f32) (lab : IVec ⟨2, ![512, 1]⟩ 32)
    (hx : ∀ i, ∃ r : ℝ, X i = r) (hw : ∀ d n, ∃ r : ℝ, W (ix2 d n) = r) (i : Fin 512)
    (h0 : 0 ≤ (lab (ix2 i 0)).toInt) (h : (lab (ix2 i 0)).toNat < 16384) :
    Cert.RefLoss.loss X W lab (ix2 i 0)
      = Ideal.log (∑ n, Ideal.exp (LG X W i n)) - LG X W i ⟨(lab (ix2 i 0)).toNat, h⟩ := by
  have hl : ∀ n : Fin 16384, Cert.RefLoss.logits X W (ix2 i n) = LG X W i n := fun n => Cert.RefLoss.logits_at X W i n
  have hr : ∀ n : Fin 16384, ∃ r : ℝ, LG X W i n = r := fun n =>
    Cert.Loss.sum_mul_real (fun d => X (ix2 i d)) (fun d => W (ix2 d n)) (fun d => hx _) (fun d => hw d n)
  rw [Cert.RefLoss.loss_at X W lab i h0 h, Cert.RefLoss.lse_at, hl]
  have hm := Cert.RefLoss.rowMax_at (Cert.RefLoss.logits X W) i
  generalize Cert.RefLoss.rowMax (Cert.RefLoss.logits X W) (ix1 i) = M at hm ⊢
  simp only [hl] at hm ⊢
  exact congrArg (· - LG X W i ⟨(lab (ix2 i 0)).toNat, h⟩) (Cert.Loss.log_sum_exp (LG X W i) hr M hm)

section Agree
open Cert.KernelIdeal

variable (m : (ℓ : Loc nD τ sig) → Buf (Elt Ideal) ℓ) (g : Dev nD → PrngReg)
  (X : FVec Ideal ⟨2, ![512, 1024]⟩ .f32) (W : FVec Ideal ⟨2, ![1024, 16384]⟩ .f32) (lab : IVec ⟨2, ![512, 1]⟩ 32)

/-- Every device's result is the reference's, the operands agreeing and the precondition holding. -/
theorem out_eq (hpre : Cert.Pre_KernelIdeal_finite_labels_in_range_KernelIdeal m)
    (hX : ∀ c : Dev nD, m ((c.tc : Thread nD τ).loc main_arg0) = X)
    (hW : ∀ (c : Dev nD) (d : Fin 1024) (j : Fin 8192), m ((c.tc : Thread nD τ).loc main_arg1) (ix2 d j : (⟨2, ![1024, 8192]⟩ : Shape).Idx) = W (ix2 d (blkCol c j)))
    (hL : ∀ c : Dev nD, m ((c.tc : Thread nD τ).loc main_arg2) = lab) (c : Dev nD) :
    Cert.Loss.outv m g c = Cert.RefLoss.loss X W lab := by
  have hp := fun c => pre_read _ _ _ (hpre c)
  have hx : ∀ i, ∃ r : ℝ, X i = r := fun i => by rw [← hX 0]; exact (hp 0).1 i
  have hw : ∀ d n, ∃ r : ℝ, W (ix2 d n) = r := fun d n => by
    obtain ⟨c, j, rfl⟩ := blkCol_onto n
    rw [← hW c]
    exact (hp c).2.1 (ix2 d j)
  have hl : ∀ i, 0 ≤ (lab i).toInt ∧ (lab i).toNat < 16384 := fun i => by rw [← hL 0]; exact (hp 0).2.2 i
  funext y
  have hy : y = ix2 (y 0) 0 := by
    funext a
    match a with
    | ⟨0, _⟩ => rfl
    | ⟨1, _⟩ => exact Subsingleton.elim (α := Fin 1) _ _
  rw [hy]
  exact (Cert.Loss.outv_at m g X W lab hX hW hL c (y 0) (hl _).2).trans (loss_eq X W lab hx hw (y 0) (hl _).1 (hl _).2).symm

end Agree

theorem algebraic : Cert.algebraic_KernelIdeal_ReferenceIdeal_pre_finite_labels_in_range_KernelIdeal := by
  intro m g m' g' hpre hag
  refine ⟨Cert.RefLoss.loss (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · exact (θ_run _ _ _).mono (fun r h c => ⟨(h c).1.trans (out_eq m g _ _ _ hpre (fun c => (hag c).1) (fun c d j => (congrFun (hag c).2.1 (ix2 d j)).trans (block_at c _ _ _ d j))
      (fun c => (hag c).2.2) c), (h c).2⟩) (Cert.Loss.run_read m g)
  · exact (θ_run _ _ _).mono (fun r h => h 0) (Cert.RefLoss.run_loss m' g')

end Cert.Proof

end
-- ==== Proof.lean ====
module

public import proofs.«01_k».proof.Defs
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, preFacts, preFactsR,
  frame_kernel, frame_ideal, frame_ideal_pre, frame_ref, frame_ref_pre, trivial, algebraic⟩

end Cert.Proof

end
